-- ==== Defs.lean ====
def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresIdeal_drawn [hPre_drawn : Cert.Pre_drawn.Facts] (m : (ℓ : Loc Cert.ScoresIdeal.nD Cert.ScoresIdeal.τ Cert.ScoresIdeal.sig) → Buf (Elt Ideal) ℓ) : Prop :=
  ∀ c : Dev Cert.ScoresIdeal.nD,
    (Cert.Pre_drawn.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3)) (m ((c.tc : Thread Cert.ScoresIdeal.nD Cert.ScoresIdeal.τ).loc Cert.ScoresIdeal.main_arg4))) = (fun _ => 1#1)

def Pre_ScoresRefIdeal (m : (ℓ : Loc Cert.ScoresRefIdeal.nD Cert.ScoresRefIdeal.τ Cert.ScoresRefIdeal.sig) → Buf (Elt Ideal) ℓ) : Prop :=
  True

def Pre_ScoresRefIdeal_drawn [hPre_drawn : Cert.Pre_drawn.Facts] (m : (ℓ : Loc Cert.ScoresRefIdeal.nD Cert.ScoresRefIdeal.τ Cert.ScoresRefIdeal.sig) → Buf (Elt Ideal) ℓ) : Prop :=
  ∀ c : Dev Cert.ScoresRefIdeal.nD,
    (Cert.Pre_drawn.fn (F := Ideal) (m ((c.tc : Thread Cert.ScoresRefIdeal.nD Cert.ScoresRefIdeal.τ).loc Cert.ScoresRefIdeal.main_arg0)) (m ((c.tc : Thread Cert.ScoresRefIdeal.nD Cert.ScoresRefIdeal.τ).loc Cert.ScoresRefIdeal.main_arg1)) (m ((c.tc : Thread Cert.ScoresRefIdeal.nD Cert.ScoresRefIdeal.τ).loc Cert.ScoresRefIdeal.main_arg2)) (m ((c.tc : Thread Cert.ScoresRefIdeal.nD Cert.ScoresRefIdeal.τ).loc Cert.ScoresRefIdeal.main_arg3)) (m ((c.tc : Thread Cert.ScoresRefIdeal.nD Cert.ScoresRefIdeal.τ).loc Cert.ScoresRefIdeal.main_arg4))) = (fun _ => 1#1)

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectIdeal_scored [hPre_scored : Cert.Pre_scored.Facts] (m : (ℓ : Loc Cert.SelectIdeal.nD Cert.SelectIdeal.τ Cert.SelectIdeal.sig) → Buf (Elt Ideal) ℓ) : Prop :=
  ∀ c : Dev Cert.SelectIdeal.nD,
    (Cert.Pre_scored.fn (F := Ideal) (m ((c.tc : Thread Cert.SelectIdeal.nD Cert.SelectIdeal.τ).loc Cert.SelectIdeal.main_arg0)) (m ((c.tc : Thread Cert.SelectIdeal.nD Cert.SelectIdeal.τ).loc Cert.SelectIdeal.main_arg1)) (m ((c.tc : Thread Cert.SelectIdeal.nD Cert.SelectIdeal.τ).loc Cert.SelectIdeal.main_arg2)) (m ((c.tc : Thread Cert.SelectIdeal.nD Cert.SelectIdeal.τ).loc Cert.SelectIdeal.main_arg3))) = (fun _ => 1#1)

def Pre_SelectRefIdeal (m : (ℓ : Loc Cert.SelectRefIdeal.nD Cert.SelectRefIdeal.τ Cert.SelectRefIdeal.sig) → Buf (Elt Ideal) ℓ) : Prop :=
  True

def Pre_SelectRefIdeal_scored [hPre_scored : Cert.Pre_scored.Facts] (m : (ℓ : Loc Cert.SelectRefIdeal.nD Cert.SelectRefIdeal.τ Cert.SelectRefIdeal.sig) → Buf (Elt Ideal) ℓ) : Prop :=
  ∀ c : Dev Cert.SelectRefIdeal.nD,
    (Cert.Pre_scored.fn (F := Ideal) (m ((c.tc : Thread Cert.SelectRefIdeal.nD Cert.SelectRefIdeal.τ).loc Cert.SelectRefIdeal.main_arg0)) (m ((c.tc : Thread Cert.SelectRefIdeal.nD Cert.SelectRefIdeal.τ).loc Cert.SelectRefIdeal.main_arg1)) (m ((c.tc : Thread Cert.SelectRefIdeal.nD Cert.SelectRefIdeal.τ).loc Cert.SelectRefIdeal.main_arg2)) (m ((c.tc : Thread Cert.SelectRefIdeal.nD Cert.SelectRefIdeal.τ).loc Cert.SelectRefIdeal.main_arg3))) = (fun _ => 1#1)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2)
      ∧ r.2.mem ((c.tc : Thread Cert.Scores.nD Cert.Scores.τ).loc Cert.Scores.main_arg3) = m ((c.tc : Thread Cert.Scores.nD Cert.Scores.τ).loc Cert.Scores.main_arg3)
      ∧ r.2.mem ((c.tc : Thread Cert.Scores.nD Cert.Scores.τ).loc Cert.Scores.main_arg4) = m ((c.tc : Thread Cert.Scores.nD Cert.Scores.τ).loc Cert.Scores.main_arg4))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
      ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
      ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4))
      ∧ r.2.sem = fun _ => 0)

def quiescent_ScoresIdeal_pre_drawn [hScoresIdeal : Cert.ScoresIdeal.Facts] [hPre_drawn : Cert.Pre_drawn.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal_drawn m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
      ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
      ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4))
      ∧ r.2.sem = fun _ => 0)

def quiescent_ScoresRefIdeal [hScoresRefIdeal : Cert.ScoresRefIdeal.Facts] : Prop :=
  ∀ (m : (ℓ : Loc Cert.ScoresRefIdeal.nD Cert.ScoresRefIdeal.τ Cert.ScoresRefIdeal.sig) → Buf (Elt Ideal) ℓ) (g : Dev Cert.ScoresRefIdeal.nD → PrngReg), Pre_ScoresRefIdeal m →
    θ_run (Cert.ScoresRefIdeal.defs (F := Ideal)) (onTc (τ := Cert.ScoresRefIdeal.τ) (Cert.ScoresRefIdeal.main (F := Ideal))) ⟨m, fun _ => 0, g⟩ (fun r => (∀ c : Dev Cert.ScoresRefIdeal.nD,
      r.2.mem ((c.tc : Thread Cert.ScoresRefIdeal.nD Cert.ScoresRefIdeal.τ).loc Cert.ScoresRefIdeal.main_arg0) = m ((c.tc : Thread Cert.ScoresRefIdeal.nD Cert.ScoresRefIdeal.τ).loc Cert.ScoresRefIdeal.main_arg0)
      ∧ r.2.mem ((c.tc : Thread Cert.ScoresRefIdeal.nD Cert.ScoresRefIdeal.τ).loc Cert.ScoresRefIdeal.main_arg1) = m ((c.tc : Thread Cert.ScoresRefIdeal.nD Cert.ScoresRefIdeal.τ).loc Cert.ScoresRefIdeal.main_arg1)
      ∧ r.2.mem ((c.tc : Thread Cert.ScoresRefIdeal.nD Cert.ScoresRefIdeal.τ).loc Cert.ScoresRefIdeal.main_arg2) = m ((c.tc : Thread Cert.ScoresRefIdeal.nD Cert.ScoresRefIdeal.τ).loc Cert.ScoresRefIdeal.main_arg2)
      ∧ r.2.mem ((c.tc : Thread Cert.ScoresRefIdeal.nD Cert.ScoresRefIdeal.τ).loc Cert.ScoresRefIdeal.main_arg3) = m ((c.tc : Thread Cert.ScoresRefIdeal.nD Cert.ScoresRefIdeal.τ).loc Cert.ScoresRefIdeal.main_arg3)
      ∧ r.2.mem ((c.tc : Thread Cert.ScoresRefIdeal.nD Cert.ScoresRefIdeal.τ).loc Cert.ScoresRefIdeal.main_arg4) = m ((c.tc : Thread Cert.ScoresRefIdeal.nD Cert.ScoresRefIdeal.τ).loc Cert.ScoresRefIdeal.main_arg4))
      ∧ r.2.sem = fun _ => 0)

def quiescent_ScoresRefIdeal_pre_drawn [hScoresRefIdeal : Cert.ScoresRefIdeal.Facts] [hPre_drawn : Cert.Pre_drawn.Facts] : Prop :=
  ∀ (m : (ℓ : Loc Cert.ScoresRefIdeal.nD Cert.ScoresRefIdeal.τ Cert.ScoresRefIdeal.sig) → Buf (Elt Ideal) ℓ) (g : Dev Cert.ScoresRefIdeal.nD → PrngReg), Pre_ScoresRefIdeal_drawn m →
    θ_run (Cert.ScoresRefIdeal.defs (F := Ideal)) (onTc (τ := Cert.ScoresRefIdeal.τ) (Cert.ScoresRefIdeal.main (F := Ideal))) ⟨m, fun _ => 0, g⟩ (fun r => (∀ c : Dev Cert.ScoresRefIdeal.nD,
      r.2.mem ((c.tc : Thread Cert.ScoresRefIdeal.nD Cert.ScoresRefIdeal.τ).loc Cert.ScoresRefIdeal.main_arg0) = m ((c.tc : Thread Cert.ScoresRefIdeal.nD Cert.ScoresRefIdeal.τ).loc Cert.ScoresRefIdeal.main_arg0)
      ∧ r.2.mem ((c.tc : Thread Cert.ScoresRefIdeal.nD Cert.ScoresRefIdeal.τ).loc Cert.ScoresRefIdeal.main_arg1) = m ((c.tc : Thread Cert.ScoresRefIdeal.nD Cert.ScoresRefIdeal.τ).loc Cert.ScoresRefIdeal.main_arg1)
      ∧ r.2.mem ((c.tc : Thread Cert.ScoresRefIdeal.nD Cert.ScoresRefIdeal.τ).loc Cert.ScoresRefIdeal.main_arg2) = m ((c.tc : Thread Cert.ScoresRefIdeal.nD Cert.ScoresRefIdeal.τ).loc Cert.ScoresRefIdeal.main_arg2)
      ∧ r.2.mem ((c.tc : Thread Cert.ScoresRefIdeal.nD Cert.ScoresRefIdeal.τ).loc Cert.ScoresRefIdeal.main_arg3) = m ((c.tc : Thread Cert.ScoresRefIdeal.nD Cert.ScoresRefIdeal.τ).loc Cert.ScoresRefIdeal.main_arg3)
      ∧ r.2.mem ((c.tc : Thread Cert.ScoresRefIdeal.nD Cert.ScoresRefIdeal.τ).loc Cert.ScoresRefIdeal.main_arg4) = m ((c.tc : Thread Cert.ScoresRefIdeal.nD Cert.ScoresRefIdeal.τ).loc Cert.ScoresRefIdeal.main_arg4))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1)
      ∧ r.2.mem ((c.tc : Thread Cert.Select.nD Cert.Select.τ).loc Cert.Select.main_arg2) = m ((c.tc : Thread Cert.Select.nD Cert.Select.τ).loc Cert.Select.main_arg2)
      ∧ r.2.mem ((c.tc : Thread Cert.Select.nD Cert.Select.τ).loc Cert.Select.main_arg3) = m ((c.tc : Thread Cert.Select.nD Cert.Select.τ).loc Cert.Select.main_arg3))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
      ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2)
      ∧ r.2.mem ((c.tc : Thread Cert.SelectIdeal.nD Cert.SelectIdeal.τ).loc Cert.SelectIdeal.main_arg3) = m ((c.tc : Thread Cert.SelectIdeal.nD Cert.SelectIdeal.τ).loc Cert.SelectIdeal.main_arg3))
      ∧ r.2.sem = fun _ => 0)

def quiescent_SelectIdeal_pre_scored [hSelectIdeal : Cert.SelectIdeal.Facts] [hPre_scored : Cert.Pre_scored.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal_scored m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
      ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2)
      ∧ r.2.mem ((c.tc : Thread Cert.SelectIdeal.nD Cert.SelectIdeal.τ).loc Cert.SelectIdeal.main_arg3) = m ((c.tc : Thread Cert.SelectIdeal.nD Cert.SelectIdeal.τ).loc Cert.SelectIdeal.main_arg3))
      ∧ r.2.sem = fun _ => 0)

def quiescent_SelectRefIdeal [hSelectRefIdeal : Cert.SelectRefIdeal.Facts] : Prop :=
  ∀ (m : (ℓ : Loc Cert.SelectRefIdeal.nD Cert.SelectRefIdeal.τ Cert.SelectRefIdeal.sig) → Buf (Elt Ideal) ℓ) (g : Dev Cert.SelectRefIdeal.nD → PrngReg), Pre_SelectRefIdeal m →
    θ_run (Cert.SelectRefIdeal.defs (F := Ideal)) (onTc (τ := Cert.SelectRefIdeal.τ) (Cert.SelectRefIdeal.main (F := Ideal))) ⟨m, fun _ => 0, g⟩ (fun r => (∀ c : Dev Cert.SelectRefIdeal.nD,
      r.2.mem ((c.tc : Thread Cert.SelectRefIdeal.nD Cert.SelectRefIdeal.τ).loc Cert.SelectRefIdeal.main_arg0) = m ((c.tc : Thread Cert.SelectRefIdeal.nD Cert.SelectRefIdeal.τ).loc Cert.SelectRefIdeal.main_arg0)
      ∧ r.2.mem ((c.tc : Thread Cert.SelectRefIdeal.nD Cert.SelectRefIdeal.τ).loc Cert.SelectRefIdeal.main_arg1) = m ((c.tc : Thread Cert.SelectRefIdeal.nD Cert.SelectRefIdeal.τ).loc Cert.SelectRefIdeal.main_arg1)
      ∧ r.2.mem ((c.tc : Thread Cert.SelectRefIdeal.nD Cert.SelectRefIdeal.τ).loc Cert.SelectRefIdeal.main_arg2) = m ((c.tc : Thread Cert.SelectRefIdeal.nD Cert.SelectRefIdeal.τ).loc Cert.SelectRefIdeal.main_arg2)
      ∧ r.2.mem ((c.tc : Thread Cert.SelectRefIdeal.nD Cert.SelectRefIdeal.τ).loc Cert.SelectRefIdeal.main_arg3) = m ((c.tc : Thread Cert.SelectRefIdeal.nD Cert.SelectRefIdeal.τ).loc Cert.SelectRefIdeal.main_arg3))
      ∧ r.2.sem = fun _ => 0)

def quiescent_SelectRefIdeal_pre_scored [hSelectRefIdeal : Cert.SelectRefIdeal.Facts] [hPre_scored : Cert.Pre_scored.Facts] : Prop :=
  ∀ (m : (ℓ : Loc Cert.SelectRefIdeal.nD Cert.SelectRefIdeal.τ Cert.SelectRefIdeal.sig) → Buf (Elt Ideal) ℓ) (g : Dev Cert.SelectRefIdeal.nD → PrngReg), Pre_SelectRefIdeal_scored m →
    θ_run (Cert.SelectRefIdeal.defs (F := Ideal)) (onTc (τ := Cert.SelectRefIdeal.τ) (Cert.SelectRefIdeal.main (F := Ideal))) ⟨m, fun _ => 0, g⟩ (fun r => (∀ c : Dev Cert.SelectRefIdeal.nD,
      r.2.mem ((c.tc : Thread Cert.SelectRefIdeal.nD Cert.SelectRefIdeal.τ).loc Cert.SelectRefIdeal.main_arg0) = m ((c.tc : Thread Cert.SelectRefIdeal.nD Cert.SelectRefIdeal.τ).loc Cert.SelectRefIdeal.main_arg0)
      ∧ r.2.mem ((c.tc : Thread Cert.SelectRefIdeal.nD Cert.SelectRefIdeal.τ).loc Cert.SelectRefIdeal.main_arg1) = m ((c.tc : Thread Cert.SelectRefIdeal.nD Cert.SelectRefIdeal.τ).loc Cert.SelectRefIdeal.main_arg1)
      ∧ r.2.mem ((c.tc : Thread Cert.SelectRefIdeal.nD Cert.SelectRefIdeal.τ).loc Cert.SelectRefIdeal.main_arg2) = m ((c.tc : Thread Cert.SelectRefIdeal.nD Cert.SelectRefIdeal.τ).loc Cert.SelectRefIdeal.main_arg2)
      ∧ r.2.mem ((c.tc : Thread Cert.SelectRefIdeal.nD Cert.SelectRefIdeal.τ).loc Cert.SelectRefIdeal.main_arg3) = m ((c.tc : Thread Cert.SelectRefIdeal.nD Cert.SelectRefIdeal.τ).loc Cert.SelectRefIdeal.main_arg3))
      ∧ r.2.sem = fun _ => 0)

def preserves_Scores_ScoresIdeal : Prop :=
  True

def algebraic_ScoresIdeal_ScoresRefIdeal_pre_drawn [hScoresIdeal : Cert.ScoresIdeal.Facts] [hScoresRefIdeal : Cert.ScoresRefIdeal.Facts] [hPre_drawn : Cert.Pre_drawn.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresRefIdeal.nD Cert.ScoresRefIdeal.τ Cert.ScoresRefIdeal.sig) → Buf (Elt Ideal) ℓ) (g' : Dev Cert.ScoresRefIdeal.nD → PrngReg), Pre_ScoresIdeal_drawn m →
    (∀ c : Dev Cert.ScoresIdeal.nD,
      m' ((c.tc : Thread Cert.ScoresRefIdeal.nD Cert.ScoresRefIdeal.τ).loc Cert.ScoresRefIdeal.main_arg0) = m ((c.tc : Thread Cert.ScoresIdeal.nD Cert.ScoresIdeal.τ).loc Cert.ScoresIdeal.main_arg0)
      ∧ m' ((c.tc : Thread Cert.ScoresRefIdeal.nD Cert.ScoresRefIdeal.τ).loc Cert.ScoresRefIdeal.main_arg1) = m ((c.tc : Thread Cert.ScoresIdeal.nD Cert.ScoresIdeal.τ).loc Cert.ScoresIdeal.main_arg1)
      ∧ m' ((c.tc : Thread Cert.ScoresRefIdeal.nD Cert.ScoresRefIdeal.τ).loc Cert.ScoresRefIdeal.main_arg2) = m ((c.tc : Thread Cert.ScoresIdeal.nD Cert.ScoresIdeal.τ).loc Cert.ScoresIdeal.main_arg2)
      ∧ m' ((c.tc : Thread Cert.ScoresRefIdeal.nD Cert.ScoresRefIdeal.τ).loc Cert.ScoresRefIdeal.main_arg3) = m ((c.tc : Thread Cert.ScoresIdeal.nD Cert.ScoresIdeal.τ).loc Cert.ScoresIdeal.main_arg3)
      ∧ m' ((c.tc : Thread Cert.ScoresRefIdeal.nD Cert.ScoresRefIdeal.τ).loc Cert.ScoresRefIdeal.main_arg4) = m ((c.tc : Thread Cert.ScoresIdeal.nD Cert.ScoresIdeal.τ).loc Cert.ScoresIdeal.main_arg4)) →
    ∃ (v0 : (c : Dev Cert.ScoresIdeal.nD) → Buf (Elt Ideal) ((c.tc : Thread Cert.ScoresIdeal.nD Cert.ScoresIdeal.τ).loc Cert.ScoresIdeal.main_v2_0)) (v1 : (c : Dev Cert.ScoresIdeal.nD) → Buf (Elt Ideal) ((c.tc : Thread Cert.ScoresIdeal.nD Cert.ScoresIdeal.τ).loc Cert.ScoresIdeal.main_v2_1)) (v2 : (c : Dev Cert.ScoresIdeal.nD) → Buf (Elt Ideal) ((c.tc : Thread Cert.ScoresIdeal.nD Cert.ScoresIdeal.τ).loc Cert.ScoresIdeal.main_v2_2)) (v3 : (c : Dev Cert.ScoresIdeal.nD) → Buf (Elt Ideal) ((c.tc : Thread Cert.ScoresIdeal.nD Cert.ScoresIdeal.τ).loc Cert.ScoresIdeal.main_v2_3)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v2_0) = v0 c
          ∧ r.2.mem ((c.tc : Thread Cert.ScoresIdeal.nD Cert.ScoresIdeal.τ).loc Cert.ScoresIdeal.main_v2_1) = v1 c
          ∧ r.2.mem ((c.tc : Thread Cert.ScoresIdeal.nD Cert.ScoresIdeal.τ).loc Cert.ScoresIdeal.main_v2_2) = v2 c
          ∧ r.2.mem ((c.tc : Thread Cert.ScoresIdeal.nD Cert.ScoresIdeal.τ).loc Cert.ScoresIdeal.main_v2_3) = v3 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
          ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
          ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4))
      ∧ θ_run (Cert.ScoresRefIdeal.defs (F := Ideal)) (onTc (τ := Cert.ScoresRefIdeal.τ) (Cert.ScoresRefIdeal.main (F := Ideal))) ⟨m', fun _ => 0, g'⟩ (fun r => ∀ c : Dev Cert.ScoresRefIdeal.nD,
          r.2.mem ((c.tc : Thread Cert.ScoresRefIdeal.nD Cert.ScoresRefIdeal.τ).loc Cert.ScoresRefIdeal.main_v47) = v0 c
          ∧ r.2.mem ((c.tc : Thread Cert.ScoresRefIdeal.nD Cert.ScoresRefIdeal.τ).loc Cert.ScoresRefIdeal.main_v48) = v1 c
          ∧ r.2.mem ((c.tc : Thread Cert.ScoresRefIdeal.nD Cert.ScoresRefIdeal.τ).loc Cert.ScoresRefIdeal.main_v49) = v2 c
          ∧ r.2.mem ((c.tc : Thread Cert.ScoresRefIdeal.nD Cert.ScoresRefIdeal.τ).loc Cert.ScoresRefIdeal.main_v50) = v3 c
          ∧ r.2.mem ((c.tc : Thread Cert.ScoresRefIdeal.nD Cert.ScoresRefIdeal.τ).loc Cert.ScoresRefIdeal.main_arg0) = m' ((c.tc : Thread Cert.ScoresRefIdeal.nD Cert.ScoresRefIdeal.τ).loc Cert.ScoresRefIdeal.main_arg0)
          ∧ r.2.mem ((c.tc : Thread Cert.ScoresRefIdeal.nD Cert.ScoresRefIdeal.τ).loc Cert.ScoresRefIdeal.main_arg1) = m' ((c.tc : Thread Cert.ScoresRefIdeal.nD Cert.ScoresRefIdeal.τ).loc Cert.ScoresRefIdeal.main_arg1)
          ∧ r.2.mem ((c.tc : Thread Cert.ScoresRefIdeal.nD Cert.ScoresRefIdeal.τ).loc Cert.ScoresRefIdeal.main_arg2) = m' ((c.tc : Thread Cert.ScoresRefIdeal.nD Cert.ScoresRefIdeal.τ).loc Cert.ScoresRefIdeal.main_arg2)
          ∧ r.2.mem ((c.tc : Thread Cert.ScoresRefIdeal.nD Cert.ScoresRefIdeal.τ).loc Cert.ScoresRefIdeal.main_arg3) = m' ((c.tc : Thread Cert.ScoresRefIdeal.nD Cert.ScoresRefIdeal.τ).loc Cert.ScoresRefIdeal.main_arg3)
          ∧ r.2.mem ((c.tc : Thread Cert.ScoresRefIdeal.nD Cert.ScoresRefIdeal.τ).loc Cert.ScoresRefIdeal.main_arg4) = m' ((c.tc : Thread Cert.ScoresRefIdeal.nD Cert.ScoresRefIdeal.τ).loc Cert.ScoresRefIdeal.main_arg4))

def preserves_Select_SelectIdeal : Prop :=
  True

def algebraic_SelectIdeal_SelectRefIdeal_pre_scored [hSelectIdeal : Cert.SelectIdeal.Facts] [hSelectRefIdeal : Cert.SelectRefIdeal.Facts] [hPre_scored : Cert.Pre_scored.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectRefIdeal.nD Cert.SelectRefIdeal.τ Cert.SelectRefIdeal.sig) → Buf (Elt Ideal) ℓ) (g' : Dev Cert.SelectRefIdeal.nD → PrngReg), Pre_SelectIdeal_scored m →
    (∀ c : Dev Cert.SelectIdeal.nD,
      m' ((c.tc : Thread Cert.SelectRefIdeal.nD Cert.SelectRefIdeal.τ).loc Cert.SelectRefIdeal.main_arg0) = m ((c.tc : Thread Cert.SelectIdeal.nD Cert.SelectIdeal.τ).loc Cert.SelectIdeal.main_arg0)
      ∧ m' ((c.tc : Thread Cert.SelectRefIdeal.nD Cert.SelectRefIdeal.τ).loc Cert.SelectRefIdeal.main_arg1) = m ((c.tc : Thread Cert.SelectIdeal.nD Cert.SelectIdeal.τ).loc Cert.SelectIdeal.main_arg1)
      ∧ m' ((c.tc : Thread Cert.SelectRefIdeal.nD Cert.SelectRefIdeal.τ).loc Cert.SelectRefIdeal.main_arg2) = m ((c.tc : Thread Cert.SelectIdeal.nD Cert.SelectIdeal.τ).loc Cert.SelectIdeal.main_arg2)
      ∧ m' ((c.tc : Thread Cert.SelectRefIdeal.nD Cert.SelectRefIdeal.τ).loc Cert.SelectRefIdeal.main_arg3) = m ((c.tc : Thread Cert.SelectIdeal.nD Cert.SelectIdeal.τ).loc Cert.SelectIdeal.main_arg3)) →
    ∃ (v0 : (c : Dev Cert.SelectIdeal.nD) → Buf (Elt Ideal) ((c.tc : Thread Cert.SelectIdeal.nD Cert.SelectIdeal.τ).loc Cert.SelectIdeal.main_v0_0)) (v1 : (c : Dev Cert.SelectIdeal.nD) → Buf (Elt Ideal) ((c.tc : Thread Cert.SelectIdeal.nD Cert.SelectIdeal.τ).loc Cert.SelectIdeal.main_v0_1)) (v2 : (c : Dev Cert.SelectIdeal.nD) → Buf (Elt Ideal) ((c.tc : Thread Cert.SelectIdeal.nD Cert.SelectIdeal.τ).loc Cert.SelectIdeal.main_v0_2)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v0_0) = v0 c
          ∧ r.2.mem ((c.tc : Thread Cert.SelectIdeal.nD Cert.SelectIdeal.τ).loc Cert.SelectIdeal.main_v0_1) = v1 c
          ∧ r.2.mem ((c.tc : Thread Cert.SelectIdeal.nD Cert.SelectIdeal.τ).loc Cert.SelectIdeal.main_v0_2) = v2 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
          ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
          ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2)
          ∧ r.2.mem ((c.tc : Thread Cert.SelectIdeal.nD Cert.SelectIdeal.τ).loc Cert.SelectIdeal.main_arg3) = m ((c.tc : Thread Cert.SelectIdeal.nD Cert.SelectIdeal.τ).loc Cert.SelectIdeal.main_arg3))
      ∧ θ_run (Cert.SelectRefIdeal.defs (F := Ideal)) (onTc (τ := Cert.SelectRefIdeal.τ) (Cert.SelectRefIdeal.main (F := Ideal))) ⟨m', fun _ => 0, g'⟩ (fun r => ∀ c : Dev Cert.SelectRefIdeal.nD,
          r.2.mem ((c.tc : Thread Cert.SelectRefIdeal.nD Cert.SelectRefIdeal.τ).loc Cert.SelectRefIdeal.main_v24) = v0 c
          ∧ r.2.mem ((c.tc : Thread Cert.SelectRefIdeal.nD Cert.SelectRefIdeal.τ).loc Cert.SelectRefIdeal.main_v25) = v1 c
          ∧ r.2.mem ((c.tc : Thread Cert.SelectRefIdeal.nD Cert.SelectRefIdeal.τ).loc Cert.SelectRefIdeal.main_v26) = v2 c
          ∧ r.2.mem ((c.tc : Thread Cert.SelectRefIdeal.nD Cert.SelectRefIdeal.τ).loc Cert.SelectRefIdeal.main_arg0) = m' ((c.tc : Thread Cert.SelectRefIdeal.nD Cert.SelectRefIdeal.τ).loc Cert.SelectRefIdeal.main_arg0)
          ∧ r.2.mem ((c.tc : Thread Cert.SelectRefIdeal.nD Cert.SelectRefIdeal.τ).loc Cert.SelectRefIdeal.main_arg1) = m' ((c.tc : Thread Cert.SelectRefIdeal.nD Cert.SelectRefIdeal.τ).loc Cert.SelectRefIdeal.main_arg1)
          ∧ r.2.mem ((c.tc : Thread Cert.SelectRefIdeal.nD Cert.SelectRefIdeal.τ).loc Cert.SelectRefIdeal.main_arg2) = m' ((c.tc : Thread Cert.SelectRefIdeal.nD Cert.SelectRefIdeal.τ).loc Cert.SelectRefIdeal.main_arg2)
          ∧ r.2.mem ((c.tc : Thread Cert.SelectRefIdeal.nD Cert.SelectRefIdeal.τ).loc Cert.SelectRefIdeal.main_arg3) = m' ((c.tc : Thread Cert.SelectRefIdeal.nD Cert.SelectRefIdeal.τ).loc Cert.SelectRefIdeal.main_arg3))

def Claim : Prop :=
  ∃ (hScores : Cert.Scores.Facts) (hScoresIdeal : Cert.ScoresIdeal.Facts) (hScoresRefIdeal : Cert.ScoresRefIdeal.Facts) (hSelect : Cert.Select.Facts) (hSelectIdeal : Cert.SelectIdeal.Facts) (hSelectRefIdeal : Cert.SelectRefIdeal.Facts) (hPre_drawn : Cert.Pre_drawn.Facts) (hPre_scored : Cert.Pre_scored.Facts),
    quiescent_Scores (hScores := hScores)
    ∧ quiescent_ScoresIdeal (hScoresIdeal := hScoresIdeal)
    ∧ quiescent_ScoresIdeal_pre_drawn (hScoresIdeal := hScoresIdeal) (hPre_drawn := hPre_drawn)
    ∧ quiescent_ScoresRefIdeal (hScoresRefIdeal := hScoresRefIdeal)
    ∧ quiescent_ScoresRefIdeal_pre_drawn (hScoresRefIdeal := hScoresRefIdeal) (hPre_drawn := hPre_drawn)
    ∧ quiescent_Select (hSelect := hSelect)
    ∧ quiescent_SelectIdeal (hSelectIdeal := hSelectIdeal)
    ∧ quiescent_SelectIdeal_pre_scored (hSelectIdeal := hSelectIdeal) (hPre_scored := hPre_scored)
    ∧ quiescent_SelectRefIdeal (hSelectRefIdeal := hSelectRefIdeal)
    ∧ quiescent_SelectRefIdeal_pre_scored (hSelectRefIdeal := hSelectRefIdeal) (hPre_scored := hPre_scored)
    ∧ preserves_Scores_ScoresIdeal
    ∧ algebraic_ScoresIdeal_ScoresRefIdeal_pre_drawn (hScoresIdeal := hScoresIdeal) (hScoresRefIdeal := hScoresRefIdeal) (hPre_drawn := hPre_drawn)
    ∧ preserves_Select_SelectIdeal
    ∧ algebraic_SelectIdeal_SelectRefIdeal_pre_scored (hSelectIdeal := hSelectIdeal) (hSelectRefIdeal := hSelectRefIdeal) (hPre_scored := hPre_scored)
-- ==== Pre_drawn.lean ====
abbrev S32x4x8732 : Shape := ⟨3, ![32, 4, 8732]⟩
abbrev S32x81x8732 : Shape := ⟨3, ![32, 81, 8732]⟩
abbrev S32x8732x4 : Shape := ⟨3, ![32, 8732, 4]⟩
abbrev S32x8732 : Shape := ⟨2, ![32, 8732]⟩
abbrev S1x4x8732 : Shape := ⟨3, ![1, 4, 8732]⟩
abbrev S_ : Shape := ⟨0, ![]⟩

class Facts : Prop where
  bcast_S_S32x81x8732 : S_.BroadcastsInDim S32x81x8732 (![] : Fin 0 → Fin S32x81x8732.rank)
  reducesTo_S32x81x8732_S_d0_1_2 : S32x81x8732.ReducesTo [0, 1, 2] S_
  h_S_ : 0 < S_.numel
  bcast_S_S32x8732 : S_.BroadcastsInDim S32x8732 (![] : Fin 0 → Fin S32x8732.rank)
  reducesTo_S32x8732_S_d0_1 : S32x8732.ReducesTo [0, 1] S_

variable [Facts]

def fn {F : FTy → Type} [FloatOps F] (main_arg0 : FVec F S32x4x8732 .f32) (main_arg1 : FVec F S32x81x8732 .f32) (main_arg2 : FVec F S32x8732x4 .f32) (main_arg3 : IVec S32x8732 32) (main_arg4 : FVec F S1x4x8732 .f32) : IVec S_ 1 :=
  let main_v0 : FVec F S32x81x8732 .f32 := Host.absf main_arg1
  let main_cst : FVec F S_ .f32 := constant S_ .f32 0x7F800000#32
  let main_v1 : FVec F S32x81x8732 .f32 := broadcastInDim S32x81x8732 ![] bcast_S_S32x81x8732 main_cst
  let main_v2 : IVec S32x81x8732 1 := cmpf .olt main_v0 main_v1
  let main_c : IVec S_ 1 := constantI S_ 1 1#1
  let main_v3 : IVec S_ 1 := (fun x v => Host.reduce IntOp.andi x v reducesTo_S32x81x8732_S_d0_1_2 h_S_) main_v2 main_c
  let main_c_0 : IVec S_ 32 := constantI S_ 32 0#32
  let main_v4 : IVec S32x8732 32 := broadcastInDim S32x8732 ![] bcast_S_S32x8732 main_c_0
  let main_v5 : IVec S32x8732 1 := cmpi .sge main_arg3 main_v4
  let main_c_1 : IVec S_ 1 := constantI S_ 1 1#1
  let main_v6 : IVec S_ 1 := (fun x v => Host.reduce IntOp.andi x v reducesTo_S32x8732_S_d0_1 h_S_) main_v5 main_c_1
  let main_v7 : IVec S_ 1 := andi main_v3 main_v6
  let main_c_2 : IVec S_ 32 := constantI S_ 32 81#32
  let main_v8 : IVec S32x8732 32 := broadcastInDim S32x8732 ![] bcast_S_S32x8732 main_c_2
  let main_v9 : IVec S32x8732 1 := cmpi .slt main_arg3 main_v8
  let main_c_3 : IVec S_ 1 := constantI S_ 1 1#1
  let main_v10 : IVec S_ 1 := (fun x v => Host.reduce IntOp.andi x v reducesTo_S32x8732_S_d0_1 h_S_) main_v9 main_c_3
  let main_v11 : IVec S_ 1 := andi main_v7 main_v10
  main_v11
-- ==== Pre_scored.lean ====
abbrev S32x1x8732 : Shape := ⟨3, ![32, 1, 8732]⟩
abbrev S32x1x1 : Shape := ⟨3, ![32, 1, 1]⟩
abbrev S1x1x1 : Shape := ⟨3, ![1, 1, 1]⟩
abbrev S_ : Shape := ⟨0, ![]⟩
abbrev S32x1 : Shape := ⟨2, ![32, 1]⟩
abbrev S32x8732 : Shape := ⟨2, ![32, 8732]⟩
abbrev S32 : Shape := ⟨1, ![32]⟩

class Facts : Prop where
  bcast_S_S32x1x8732 : S_.BroadcastsInDim S32x1x8732 (![] : Fin 0 → Fin S32x1x8732.rank)
  reducesTo_S32x1x8732_S_d0_1_2 : S32x1x8732.ReducesTo [0, 1, 2] S_
  h_S_ : 0 < S_.numel
  shapeCasts_S32x1x1_S32x1 : S32x1x1.ShapeCasts S32x1
  bcast_S_S32x1 : S_.BroadcastsInDim S32x1 (![] : Fin 0 → Fin S32x1.rank)
  shapeCasts_S32x1x8732_S32x8732 : S32x1x8732.ShapeCasts S32x8732
  bcast_S_S32x8732 : S_.BroadcastsInDim S32x8732 (![] : Fin 0 → Fin S32x8732.rank)
  natLt_1_32 : 1 < 32
  reducesTo_S32x8732_S32_d1 : S32x8732.ReducesTo [1] S32
  bcast_S32_S32x1_0 : S32.BroadcastsInDim S32x1 (![0] : Fin 1 → Fin S32x1.rank)
  reducesTo_S32x1_S_d0_1 : S32x1.ReducesTo [0, 1] S_

variable [Facts]

def fn {F : FTy → Type} [FloatOps F] (main_arg0 : IVec S32x1x8732 32) (main_arg1 : IVec S32x1x1 32) (main_arg2 : FVec F S1x1x1 .f32) (main_arg3 : FVec F S1x1x1 .f32) : IVec S_ 1 :=
  let main_c : IVec S_ 32 := constantI S_ 32 2139095040#32
  let main_v0 : IVec S32x1x8732 32 := broadcastInDim S32x1x8732 ![] bcast_S_S32x1x8732 main_c
  let main_v1 : IVec S32x1x8732 1 := cmpi .sle main_arg0 main_v0
  let main_c_0 : IVec S_ 1 := constantI S_ 1 1#1
  let main_v2 : IVec S_ 1 := (fun x v => Host.reduce IntOp.andi x v reducesTo_S32x1x8732_S_d0_1_2 h_S_) main_v1 main_c_0
  let main_v3 : IVec S32x1 32 := shapeCast S32x1 main_arg1 shapeCasts_S32x1x1_S32x1
  let main_c_1 : IVec S_ 32 := constantI S_ 32 3#32
  let main_v4 : IVec S32x1 32 := broadcastInDim S32x1 ![] bcast_S_S32x1 main_c_1
  let main_v5 : IVec S32x1 32 := muli main_v4 main_v3
  let main_v6 : IVec S32x8732 32 := shapeCast S32x8732 main_arg0 shapeCasts_S32x1x8732_S32x8732
  let main_c_2 : IVec S_ 32 := constantI S_ 32 0#32
  let main_v7 : IVec S32x8732 32 := broadcastInDim S32x8732 ![] bcast_S_S32x8732 main_c_2
  let main_v8 : IVec S32x8732 1 := cmpi .sge main_v6 main_v7
  let main_v9 : IVec S32x8732 32 := (extui 32 · natLt_1_32) main_v8
  let main_c_3 : IVec S_ 32 := constantI S_ 32 0#32
  let main_v10 : IVec S32 32 := (fun x v => Host.reduce IntOp.addi x v reducesTo_S32x8732_S32_d1 h_S_) main_v9 main_c_3
  let main_v11 : IVec S32x1 32 := broadcastInDim S32x1 ![0] bcast_S32_S32x1_0 main_v10
  let main_v12 : IVec S32x1 1 := cmpi .sle main_v5 main_v11
  let main_c_4 : IVec S_ 1 := constantI S_ 1 1#1
  let main_v13 : IVec S_ 1 := (fun x v => Host.reduce IntOp.andi x v reducesTo_S32x1_S_d0_1 h_S_) main_v12 main_c_4
  let main_v14 : IVec S_ 1 := andi main_v2 main_v13
  main_v14
-- ==== Scores.lean ====
abbrev S32x4x8732 : Shape := ⟨3, ![32, 4, 8732]⟩
abbrev S32x81x8732 : Shape := ⟨3, ![32, 81, 8732]⟩
abbrev S32x8732x4 : Shape := ⟨3, ![32, 8732, 4]⟩
abbrev S32x8732 : Shape := ⟨2, ![32, 8732]⟩
abbrev S1x4x8732 : Shape := ⟨3, ![1, 4, 8732]⟩
abbrev S32x1x8732 : Shape := ⟨3, ![32, 1, 8732]⟩
abbrev S32x1x1 : Shape := ⟨3, ![32, 1, 1]⟩
abbrev S1x1x1 : Shape := ⟨3, ![1, 1, 1]⟩
abbrev S2x81x8732 : Shape := ⟨3, ![2, 81, 8732]⟩
abbrev S2x1x8732 : Shape := ⟨3, ![2, 1, 8732]⟩
abbrev S2x4x8732 : Shape := ⟨3, ![2, 4, 8732]⟩
abbrev S2x1x1 : Shape := ⟨3, ![2, 1, 1]⟩
abbrev S2x8732 : Shape := ⟨2, ![2, 8732]⟩
abbrev S2x1 : Shape := ⟨2, ![2, 1]⟩
abbrev S2x2x8732 : Shape := ⟨3, ![2, 2, 8732]⟩
abbrev S1x2x8732 : Shape := ⟨3, ![1, 2, 8732]⟩
abbrev S1x2x4x8732 : Shape := ⟨4, ![1, 2, 4, 8732]⟩
abbrev S1 : Shape := ⟨1, ![1]⟩
abbrev S1x1x1x1 : Shape := ⟨4, ![1, 1, 1, 1]⟩
abbrev S1x2x1x8732 : Shape := ⟨4, ![1, 2, 1, 8732]⟩

abbrev nBuf : Space → Nat
  | .hbm => 11
  | .vmem => 15
  | .smem => 0
  | _ => 0

abbrev bufTy : (tb : Table) → Fin (tcTables nBuf tb) → BufTy
  | .hbm, ⟨0, _⟩ => ⟨S32x4x8732, .f32⟩
  | .hbm, ⟨1, _⟩ => ⟨S32x81x8732, .f32⟩
  | .hbm, ⟨2, _⟩ => ⟨S32x8732x4, .f32⟩
  | .hbm, ⟨3, _⟩ => ⟨S32x8732, .i32⟩
  | .hbm, ⟨4, _⟩ => ⟨S1x4x8732, .f32⟩
  | .hbm, ⟨5, _⟩ => ⟨S32x4x8732, .f32⟩
  | .hbm, ⟨6, _⟩ => ⟨S32x1x8732, .i32⟩
  | .hbm, ⟨7, _⟩ => ⟨S32x1x8732, .f32⟩
  | .hbm, ⟨8, _⟩ => ⟨S32x1x1, .i32⟩
  | .hbm, ⟨9, _⟩ => ⟨S1x1x1, .f32⟩
  | .hbm, ⟨10, _⟩ => ⟨S1x1x1, .f32⟩
  | .local _ .vmem, ⟨0, _⟩ => ⟨S2x81x8732, .f32⟩
  | .local _ .vmem, ⟨1, _⟩ => ⟨S2x81x8732, .f32⟩
  | .local _ .vmem, ⟨2, _⟩ => ⟨S2x1x8732, .i32⟩
  | .local _ .vmem, ⟨3, _⟩ => ⟨S2x1x8732, .i32⟩
  | .local _ .vmem, ⟨4, _⟩ => ⟨S2x4x8732, .f32⟩
  | .local _ .vmem, ⟨5, _⟩ => ⟨S2x4x8732, .f32⟩
  | .local _ .vmem, ⟨6, _⟩ => ⟨S2x4x8732, .f32⟩
  | .local _ .vmem, ⟨7, _⟩ => ⟨S2x4x8732, .f32⟩
  | .local _ .vmem, ⟨8, _⟩ => ⟨S1x4x8732, .f32⟩
  | .local _ .vmem, ⟨9, _⟩ => ⟨S2x1x8732, .f32⟩
  | .local _ .vmem, ⟨10, _⟩ => ⟨S2x1x8732, .f32⟩
  | .local _ .vmem, ⟨11, _⟩ => ⟨S2x1x1, .i32⟩
  | .local _ .vmem, ⟨12, _⟩ => ⟨S2x1x1, .i32⟩
  | .local _ .vmem, ⟨13, _⟩ => ⟨S1x1x1, .f32⟩
  | .local _ .vmem, ⟨14, _⟩ => ⟨S1x1x1, .f32⟩
  | _, _ => ⟨S32x4x8732, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2x81x8732 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x8732 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x4x8732 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x4x8732 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4x8732 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x1x8732 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ScoresRefIdeal.lean ====
abbrev S32x4x8732 : Shape := ⟨3, ![32, 4, 8732]⟩
abbrev S32x81x8732 : Shape := ⟨3, ![32, 81, 8732]⟩
abbrev S32x8732x4 : Shape := ⟨3, ![32, 8732, 4]⟩
abbrev S32x8732 : Shape := ⟨2, ![32, 8732]⟩
abbrev S1x4x8732 : Shape := ⟨3, ![1, 4, 8732]⟩
abbrev S_ : Shape := ⟨0, ![]⟩
abbrev S32x1x8732 : Shape := ⟨3, ![32, 1, 8732]⟩
abbrev S32 : Shape := ⟨1, ![32]⟩
abbrev S32x1 : Shape := ⟨2, ![32, 1]⟩
abbrev S32x1x8732x1 : Shape := ⟨4, ![32, 1, 8732, 1]⟩
abbrev S1 : Shape := ⟨1, ![1]⟩
abbrev S1x1x1x1 : Shape := ⟨4, ![1, 1, 1, 1]⟩
abbrev S32x2x8732 : Shape := ⟨3, ![32, 2, 8732]⟩
abbrev S1x2x8732 : Shape := ⟨3, ![1, 2, 8732]⟩
abbrev S32x1x1 : Shape := ⟨3, ![32, 1, 1]⟩
abbrev S1x1x1 : Shape := ⟨3, ![1, 1, 1]⟩

abbrev nBuf : Space → Nat
  | .hbm => 110
  | .vmem => 0
  | .smem => 0
  | _ => 0

abbrev bufTy : (tb : Table) → Fin (tcTables nBuf tb) → BufTy
  | .hbm, ⟨0, _⟩ => ⟨S32x4x8732, .f32⟩
  | .hbm, ⟨1, _⟩ => ⟨S32x81x8732, .f32⟩
  | .hbm, ⟨2, _⟩ => ⟨S32x8732x4, .f32⟩
  | .hbm, ⟨3, _⟩ => ⟨S32x8732, .i32⟩
  | .hbm, ⟨4, _⟩ => ⟨S1x4x8732, .f32⟩
  | .hbm, ⟨5, _⟩ => ⟨S32x4x8732, .f32⟩
  | .hbm, ⟨6, _⟩ => ⟨S_, .f32⟩
  | .hbm, ⟨7, _⟩ => ⟨S32x8732, .f32⟩
  | .hbm, ⟨8, _⟩ => ⟨S_, .f32⟩
  | .hbm, ⟨9, _⟩ => ⟨S32x8732, .f32⟩
  | .hbm, ⟨10, _⟩ => ⟨S32x8732, .f32⟩
  | .hbm, ⟨11, _⟩ => ⟨S32x1x8732, .f32⟩
  | .hbm, ⟨12, _⟩ => ⟨S32x81x8732, .f32⟩
  | .hbm, ⟨13, _⟩ => ⟨S32x81x8732, .f32⟩
  | .hbm, ⟨14, _⟩ => ⟨S32x81x8732, .f32⟩
  | .hbm, ⟨15, _⟩ => ⟨S_, .f32⟩
  | .hbm, ⟨16, _⟩ => ⟨S32x8732, .f32⟩
  | .hbm, ⟨17, _⟩ => ⟨S32x1x8732, .f32⟩
  | .hbm, ⟨18, _⟩ => ⟨S32x1x8732, .f32⟩
  | .hbm, ⟨19, _⟩ => ⟨S32x81x8732, .f32⟩
  | .hbm, ⟨20, _⟩ => ⟨S32x81x8732, .f32⟩
  | .hbm, ⟨21, _⟩ => ⟨S32x1x8732, .f32⟩
  | .hbm, ⟨22, _⟩ => ⟨S32x8732, .f32⟩
  | .hbm, ⟨23, _⟩ => ⟨S32x8732, .f32⟩
  | .hbm, ⟨24, _⟩ => ⟨S_, .i32⟩
  | .hbm, ⟨25, _⟩ => ⟨S32x8732, .i32⟩
  | .hbm, ⟨26, _⟩ => ⟨S32x8732, .i1⟩
  | .hbm, ⟨27, _⟩ => ⟨S32x8732, .i32⟩
  | .hbm, ⟨28, _⟩ => ⟨S_, .i32⟩
  | .hbm, ⟨29, _⟩ => ⟨S32, .i32⟩
  | .hbm, ⟨30, _⟩ => ⟨S32x1, .i32⟩
  | .hbm, ⟨31, _⟩ => ⟨S_, .f32⟩
  | .hbm, ⟨32, _⟩ => ⟨S_, .f32⟩
  | .hbm, ⟨33, _⟩ => ⟨S32x8732, .f32⟩
  | .hbm, ⟨34, _⟩ => ⟨S32x8732, .f32⟩
  | .hbm, ⟨35, _⟩ => ⟨S32x1x8732, .i32⟩
  | .hbm, ⟨36, _⟩ => ⟨S_, .i32⟩
  | .hbm, ⟨37, _⟩ => ⟨S32x1x8732, .i32⟩
  | .hbm, ⟨38, _⟩ => ⟨S32x1x8732, .i1⟩
  | .hbm, ⟨39, _⟩ => ⟨S_, .i32⟩
  | .hbm, ⟨40, _⟩ => ⟨S32x1x8732, .i32⟩
  | .hbm, ⟨41, _⟩ => ⟨S32x1x8732, .i32⟩
  | .hbm, ⟨42, _⟩ => ⟨S32x1x8732, .i32⟩
  | .hbm, ⟨43, _⟩ => ⟨S32x1x8732x1, .i32⟩
  | .hbm, ⟨44, _⟩ => ⟨S1, .i32⟩
  | .hbm, ⟨45, _⟩ => ⟨S_, .i32⟩
  | .hbm, ⟨46, _⟩ => ⟨S32x1x8732x1, .i32⟩
  | .hbm, ⟨47, _⟩ => ⟨S32x1x8732x1, .i1⟩
  | .hbm, ⟨48, _⟩ => ⟨S1x1x1x1, .i32⟩
  | .hbm, ⟨49, _⟩ => ⟨S32x1x8732x1, .i32⟩
  | .hbm, ⟨50, _⟩ => ⟨S32x1x8732x1, .i1⟩
  | .hbm, ⟨51, _⟩ => ⟨S32x1x8732x1, .i1⟩
  | .hbm, ⟨52, _⟩ => ⟨S_, .i1⟩
  | .hbm, ⟨53, _⟩ => ⟨S32x1x8732, .i1⟩
  | .hbm, ⟨54, _⟩ => ⟨S32x1x8732, .f32⟩
  | .hbm, ⟨55, _⟩ => ⟨S_, .f32⟩
  | .hbm, ⟨56, _⟩ => ⟨S32x1x8732, .f32⟩
  | .hbm, ⟨57, _⟩ => ⟨S32x1x8732, .f32⟩
  | .hbm, ⟨58, _⟩ => ⟨S32x8732, .f32⟩
  | .hbm, ⟨59, _⟩ => ⟨S32x8732, .f32⟩
  | .hbm, ⟨60, _⟩ => ⟨S_, .f32⟩
  | .hbm, ⟨61, _⟩ => ⟨S_, .f32⟩
  | .hbm, ⟨62, _⟩ => ⟨S32x8732, .f32⟩
  | .hbm, ⟨63, _⟩ => ⟨S32x8732, .f32⟩
  | .hbm, ⟨64, _⟩ => ⟨S_, .f32⟩
  | .hbm, ⟨65, _⟩ => ⟨S_, .f32⟩
  | .hbm, ⟨66, _⟩ => ⟨S32x2x8732, .f32⟩
  | .hbm, ⟨67, _⟩ => ⟨S1x2x8732, .f32⟩
  | .hbm, ⟨68, _⟩ => ⟨S32x2x8732, .f32⟩
  | .hbm, ⟨69, _⟩ => ⟨S32x2x8732, .f32⟩
  | .hbm, ⟨70, _⟩ => ⟨S_, .f32⟩
  | .hbm, ⟨71, _⟩ => ⟨S32x2x8732, .f32⟩
  | .hbm, ⟨72, _⟩ => ⟨S32x2x8732, .f32⟩
  | .hbm, ⟨73, _⟩ => ⟨S1x2x8732, .f32⟩
  | .hbm, ⟨74, _⟩ => ⟨S32x2x8732, .f32⟩
  | .hbm, ⟨75, _⟩ => ⟨S32x2x8732, .f32⟩
  | .hbm, ⟨76, _⟩ => ⟨S32x2x8732, .f32⟩
  | .hbm, ⟨77, _⟩ => ⟨S1x2x8732, .f32⟩
  | .hbm, ⟨78, _⟩ => ⟨S32x2x8732, .f32⟩
  | .hbm, ⟨79, _⟩ => ⟨S32x2x8732, .f32⟩
  | .hbm, ⟨80, _⟩ => ⟨S32x2x8732, .f32⟩
  | .hbm, ⟨81, _⟩ => ⟨S_, .f32⟩
  | .hbm, ⟨82, _⟩ => ⟨S32x2x8732, .f32⟩
  | .hbm, ⟨83, _⟩ => ⟨S32x2x8732, .f32⟩
  | .hbm, ⟨84, _⟩ => ⟨S32x4x8732, .f32⟩
  | .hbm, ⟨85, _⟩ => ⟨S32x1x8732, .i1⟩
  | .hbm, ⟨86, _⟩ => ⟨S32x4x8732, .f32⟩
  | .hbm, ⟨87, _⟩ => ⟨S32x4x8732, .f32⟩
  | .hbm, ⟨88, _⟩ => ⟨S_, .f32⟩
  | .hbm, ⟨89, _⟩ => ⟨S32x4x8732, .f32⟩
  | .hbm, ⟨90, _⟩ => ⟨S32x4x8732, .i1⟩
  | .hbm, ⟨91, _⟩ => ⟨S_, .f32⟩
  | .hbm, ⟨92, _⟩ => ⟨S32x4x8732, .f32⟩
  | .hbm, ⟨93, _⟩ => ⟨S32x4x8732, .f32⟩
  | .hbm, ⟨94, _⟩ => ⟨S32x4x8732, .f32⟩
  | .hbm, ⟨95, _⟩ => ⟨S_, .f32⟩
  | .hbm, ⟨96, _⟩ => ⟨S32x4x8732, .f32⟩
  | .hbm, ⟨97, _⟩ => ⟨S32x4x8732, .f32⟩
  | .hbm, ⟨98, _⟩ => ⟨S32x4x8732, .f32⟩
  | .hbm, ⟨99, _⟩ => ⟨S_, .f32⟩
  | .hbm, ⟨100, _⟩ => ⟨S_, .f32⟩
  | .hbm, ⟨101, _⟩ => ⟨S32x4x8732, .i1⟩
  | .hbm, ⟨102, _⟩ => ⟨S32x4x8732, .f32⟩
  | .hbm, ⟨103, _⟩ => ⟨S32x4x8732, .f32⟩
  | .hbm, ⟨104, _⟩ => ⟨S_, .f32⟩
  | .hbm, ⟨105, _⟩ => ⟨S_, .f32⟩
  | .hbm, ⟨106, _⟩ => ⟨S32x1x8732, .f32⟩
  | .hbm, ⟨107, _⟩ => ⟨S32x1x1, .i32⟩
  | .hbm, ⟨108, _⟩ => ⟨S1x1x1, .f32⟩
  | .hbm, ⟨109, _⟩ => ⟨S1x1x1, .f32⟩
  | _, _ => ⟨S32x4x8732, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c_0 : Ref sig .tc := ⟨.hbm, 28, rfl⟩
abbrev main_v8 : Ref sig .tc := ⟨.hbm, 29, rfl⟩
abbrev main_v9 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_v10 : Ref sig .tc := ⟨.hbm, 34, rfl⟩
abbrev main_v11 : Ref sig .tc := ⟨.hbm, 35, rfl⟩
abbrev main_call2_c : Ref sig .tc := ⟨.hbm, 36, rfl⟩
abbrev main_call2_v0 : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c_1 : Ref sig .tc := ⟨.hbm, 44, rfl⟩
abbrev main_call2_c_2 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_3 : Ref sig .tc := ⟨.hbm, 52, rfl⟩
abbrev main_call2_v12 : Ref sig .tc := ⟨.hbm, 53, rfl⟩
abbrev main_call2_v13 : Ref sig .tc := ⟨.hbm, 54, rfl⟩
abbrev main_call2_cst : Ref sig .tc := ⟨.hbm, 55, rfl⟩
abbrev main_call2_v14 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_cst_1 : Ref sig .tc := ⟨.hbm, 60, rfl⟩
abbrev main_call3_v0 : Ref sig .tc := ⟨.hbm, 61, rfl⟩
abbrev main_call3_v1 : Ref sig .tc := ⟨.hbm, 62, rfl⟩
abbrev main_v15 : Ref sig .tc := ⟨.hbm, 63, rfl⟩
abbrev main_cst_2 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_cst_3 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_cst_4 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_cst_5 : Ref sig .tc := ⟨.hbm, 88, rfl⟩
abbrev main_v37 : Ref sig .tc := ⟨.hbm, 89, rfl⟩
abbrev main_v38 : Ref sig .tc := ⟨.hbm, 90, rfl⟩
abbrev main_cst_6 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_cst_7 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_cst_8 : Ref sig .tc := ⟨.hbm, 99, rfl⟩
abbrev main_call5_v0 : Ref sig .tc := ⟨.hbm, 100, rfl⟩
abbrev main_call5_v1 : Ref sig .tc := ⟨.hbm, 101, rfl⟩
abbrev main_call5_v2 : Ref sig .tc := ⟨.hbm, 102, rfl⟩
abbrev main_v45 : Ref sig .tc := ⟨.hbm, 103, rfl⟩
abbrev main_cst_9 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩

abbrev nD : Nat := 1
abbrev τ : Topo := Topo.v7x

variable {F : FTy → Type} [FloatOps F]
-- ==== Select.lean ====
abbrev S32x1x8732 : Shape := ⟨3, ![32, 1, 8732]⟩
abbrev S32x1x1 : Shape := ⟨3, ![32, 1, 1]⟩
abbrev S1x1x1 : Shape := ⟨3, ![1, 1, 1]⟩
abbrev S1x1 : Shape := ⟨2, ![1, 1]⟩
abbrev S32x8732 : Shape := ⟨2, ![32, 8732]⟩
abbrev S32x1 : Shape := ⟨2, ![32, 1]⟩
abbrev S1x1x1x1 : Shape := ⟨4, ![1, 1, 1, 1]⟩
abbrev S1 : Shape := ⟨1, ![1]⟩
abbrev S1x32x1 : Shape := ⟨3, ![1, 32, 1]⟩
abbrev S32 : Shape := ⟨1, ![32]⟩
abbrev S1x32x8732 : Shape := ⟨3, ![1, 32, 8732]⟩

abbrev nBuf : Space → Nat
  | .hbm => 7
  | .vmem => 7
  | .smem => 0
  | _ => 0

abbrev bufTy : (tb : Table) → Fin (tcTables nBuf tb) → BufTy
  | .hbm, ⟨0, _⟩ => ⟨S32x1x8732, .i32⟩
  | .hbm, ⟨1, _⟩ => ⟨S32x1x1, .i32⟩
  | .hbm, ⟨2, _⟩ => ⟨S1x1x1, .f32⟩
  | .hbm, ⟨3, _⟩ => ⟨S1x1x1, .f32⟩
  | .hbm, ⟨4, _⟩ => ⟨S1x1, .f32⟩
  | .hbm, ⟨5, _⟩ => ⟨S1x1, .f32⟩
  | .hbm, ⟨6, _⟩ => ⟨S1x1, .f32⟩
  | .local _ .vmem, ⟨0, _⟩ => ⟨S32x1x8732, .i32⟩
  | .local _ .vmem, ⟨1, _⟩ => ⟨S32x1x1, .i32⟩
  | .local _ .vmem, ⟨2, _⟩ => ⟨S1x1x1, .f32⟩
  | .local _ .vmem, ⟨3, _⟩ => ⟨S1x1x1, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | _, _ => ⟨S32x1x8732, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32_13 : BitVec 32 := 0#32
  let c16_i32 : BitVec 32 := 16#32
  let v23 : BitVec 32 := Scalar.addi c0_i32_13 c16_i32
  let c1_i32 : BitVec 32 := 1#32
  ⟨c0_i32_13, v23, c1_i32⟩
@[reducible] def k0_t2_loop : Scf.Loop 32 :=
  let c0_i32_34 : BitVec 32 := 0#32
  let c14_i32 : BitVec 32 := 14#32
  let v75 : BitVec 32 := Scalar.addi c0_i32_34 c14_i32
  let c1_i32_35 : BitVec 32 := 1#32
  ⟨c0_i32_34, v75, c1_i32_35⟩
abbrev stage0_0 : Fin 1 → Memref sig .tc .vmem S32x1x8732 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== SelectRefIdeal.lean ====
abbrev S32x1x8732 : Shape := ⟨3, ![32, 1, 8732]⟩
abbrev S32x1x1 : Shape := ⟨3, ![32, 1, 1]⟩
abbrev S1x1x1 : Shape := ⟨3, ![1, 1, 1]⟩
abbrev S32x8732 : Shape := ⟨2, ![32, 8732]⟩
abbrev S32x1 : Shape := ⟨2, ![32, 1]⟩
abbrev S_ : Shape := ⟨0, ![]⟩
abbrev S1x1 : Shape := ⟨2, ![1, 1]⟩

abbrev nBuf : Space → Nat
  | .hbm => 45
  | .vmem => 0
  | .smem => 0
  | _ => 0

abbrev bufTy : (tb : Table) → Fin (tcTables nBuf tb) → BufTy
  | .hbm, ⟨0, _⟩ => ⟨S32x1x8732, .i32⟩
  | .hbm, ⟨1, _⟩ => ⟨S32x1x1, .i32⟩
  | .hbm, ⟨2, _⟩ => ⟨S1x1x1, .f32⟩
  | .hbm, ⟨3, _⟩ => ⟨S1x1x1, .f32⟩
  | .hbm, ⟨4, _⟩ => ⟨S32x8732, .i32⟩
  | .hbm, ⟨5, _⟩ => ⟨S32x1, .i32⟩
  | .hbm, ⟨6, _⟩ => ⟨S_, .i32⟩
  | .hbm, ⟨7, _⟩ => ⟨S32x8732, .i32⟩
  | .hbm, ⟨8, _⟩ => ⟨S32x8732, .i1⟩
  | .hbm, ⟨9, _⟩ => ⟨S32x8732, .f32⟩
  | .hbm, ⟨10, _⟩ => ⟨S_, .f32⟩
  | .hbm, ⟨11, _⟩ => ⟨S_, .f32⟩
  | .hbm, ⟨12, _⟩ => ⟨S32x8732, .f32⟩
  | .hbm, ⟨13, _⟩ => ⟨S32x8732, .f32⟩
  | .hbm, ⟨14, _⟩ => ⟨S_, .i32⟩
  | .hbm, ⟨15, _⟩ => ⟨S32x1, .i32⟩
  | .hbm, ⟨16, _⟩ => ⟨S32x1, .i32⟩
  | .hbm, ⟨17, _⟩ => ⟨S32x8732, .f32⟩
  | .hbm, ⟨18, _⟩ => ⟨S32x8732, .i32⟩
  | .hbm, ⟨19, _⟩ => ⟨S32x8732, .f32⟩
  | .hbm, ⟨20, _⟩ => ⟨S32x8732, .i32⟩
  | .hbm, ⟨21, _⟩ => ⟨S32x8732, .i32⟩
  | .hbm, ⟨22, _⟩ => ⟨S32x8732, .i32⟩
  | .hbm, ⟨23, _⟩ => ⟨S32x8732, .i32⟩
  | .hbm, ⟨24, _⟩ => ⟨S32x8732, .i32⟩
  | .hbm, ⟨25, _⟩ => ⟨S32x8732, .i1⟩
  | .hbm, ⟨26, _⟩ => ⟨S_, .f32⟩
  | .hbm, ⟨27, _⟩ => ⟨S32x8732, .i1⟩
  | .hbm, ⟨28, _⟩ => ⟨S_, .f32⟩
  | .hbm, ⟨29, _⟩ => ⟨S_, .f32⟩
  | .hbm, ⟨30, _⟩ => ⟨S32x8732, .f32⟩
  | .hbm, ⟨31, _⟩ => ⟨S32x8732, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .i32⟩
  | .hbm, ⟨36, _⟩ => ⟨S_, .i32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1x1, .f32⟩
  | .hbm, ⟨43, _⟩ => ⟨S1x1, .f32⟩
  | .hbm, ⟨44, _⟩ => ⟨S1x1, .f32⟩
  | _, _ => ⟨S32x1x8732, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_v0 : Ref sig .tc := ⟨.hbm, 18, rfl⟩
abbrev main_call1_v1_0 : Ref sig .tc := ⟨.hbm, 19, rfl⟩
abbrev main_v9 : Ref sig .tc := ⟨.hbm, 20, rfl⟩
abbrev main_call2_v0 : Ref sig .tc := ⟨.hbm, 21, rfl⟩
abbrev main_call2_v1_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_call3_v0 : Ref sig .tc := ⟨.hbm, 29, rfl⟩
abbrev main_call3_v1 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Proof.SelIdealRun.lean ====
/- The second call (`select`): its body's run, the value it leaves in each result block, and the launch. -/
module

public import proofs.«01_k».proof.Proof.Gen.SelectIdeal.Frame
public import proofs.«01_k».proof.Proof.Gen.SelectIdeal.Skeleton
public import proofs.«01_k».proof.Proof.Gen.SelectIdeal.Points
public import Idealize.ShloMosaic.Lib.Pipeline.Value
public import Idealize.ShloMosaic.Lib.Pipeline.ReadBack
public import Idealize.ShloMosaic.Lib.Claim

@[expose] public section

noncomputable section

namespace Cert.SelectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The threshold search's result: sixteen two-bit steps from the zero word, every row at once. -/
def search (x0 : Vec F S32x1x8732 .i32) (x1 : Vec F S32x1x1 .i32) : IVec S32x1 32 :=
  Scf.fold (fun t a => k0_pay21 (F := F) x0 x1 t a) k0_pay20

/-- The flag the body branches on: some row has more tied keys than it may take. -/
def needSlow (x0 : Vec F S32x1x8732 .i32) (x1 : Vec F S32x1x1 .i32) : BitVec 1 :=
  Scalar.cmpi .ne (Scalar.extui (Scalar.cmpf .ogt
    (k0_pay1 (F := F) (k0_pay24 x0 x1 (search x0 x1)) (k0_pay26 x0 (search x0 x1))) (Scalar.ofBits .f32 0x00000000#32))) 0#32

/-- The tie search's result: fourteen one-bit steps of the last index a row takes, beside what is left to take. -/
def tieSearch (x0 : Vec F S32x1x8732 .i32) (x1 : Vec F S32x1x1 .i32) : IVec S32x1 32 × IVec S32x1 32 :=
  Scf.fold (fun t a => (k0_pay4 (k0_pay25 (F := F) x0 (search x0 x1)) t a.1 a.2, k0_pay5 (k0_pay25 (F := F) x0 (search x0 x1)) t a.1 a.2))
    (k0_pay20, k0_pay24 x0 x1 (search x0 x1))

/-- The sum over the tied keys taken. -/
def tieSum (x0 : Vec F S32x1x8732 .i32) (x1 : Vec F S32x1x1 .i32) : F .f32 :=
  if needSlow x0 x1 = 1#1 then
    k0_pay6 (k0_pay14 x0) (k0_pay24 x0 x1 (search x0 x1)) (k0_pay25 x0 (search x0 x1)) (tieSearch x0 x1).1
  else k0_pay7 (k0_pay14 x0) (k0_pay24 x0 x1 (search x0 x1)) (k0_pay25 x0 (search x0 x1))

/-- What the body leaves in the three result blocks. -/
def outTotal (x0 : Vec F S32x1x8732 .i32) (x1 : Vec F S32x1x1 .i32) (x2 : Vec F S1x1x1 .f32) (x3 : Vec F S1x1x1 .f32) : Vec F S1x1 .f32 :=
  k0_pay10 (k0_pay14 x0) (k0_pay16 x2) (k0_pay17 x3) (k0_pay19 x1) (k0_pay23 x0 (search x0 x1)) (tieSum x0 x1)
def outReg (x1 : Vec F S32x1x1 .i32) (x2 : Vec F S1x1x1 .f32) : Vec F S1x1 .f32 :=
  k0_pay11 (k0_pay16 x2) (k0_pay19 x1)
def outCls (x0 : Vec F S32x1x8732 .i32) (x1 : Vec F S32x1x1 .i32) (x3 : Vec F S1x1x1 .f32) : Vec F S1x1 .f32 :=
  k0_pay12 (k0_pay14 x0) (k0_pay17 x3) (k0_pay19 x1) (k0_pay23 x0 (search x0 x1)) (tieSum x0 x1)

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- The body's triple: on whole staging memrefs, the inputs' at their contents and the results' at anything, the body
    runs to the continuation holding the inputs as they were and each result block at its named value. -/
theorem kernelRun (c : Dev nD) (arg0 : Memref sig .tc .vmem S32x1x8732 .i32) (harg0 : arg0.IsWhole) (arg1 : Memref sig .tc .vmem S32x1x1 .i32) (harg1 : arg1.IsWhole) (arg2 : Memref sig .tc .vmem S1x1x1 .f32) (harg2 : arg2.IsWhole) (arg3 : Memref sig .tc .vmem S1x1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole)
    (x0 : Vec F S32x1x8732 .i32) (x1 : Vec F S32x1x1 .i32) (x2 : Vec F S1x1x1 .f32) (x3 : Vec F S1x1x1 .f32) (E : Set ℕ) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (outTotal x0 x1 x2 x3) ∗ owns (c : Thread nD τ) arg5 fullShare (outReg x1 x2) ∗ owns (c : Thread nD τ) arg6 fullShare (outCls x0 x1 x3)) -∗ K ⟨⟩))
      ⊢ wp frame (wpE (defs₀ (F := F)) Variants.none c none) E (cc0__phase_b arg0 harg0 arg1 harg1 arg2 harg2 arg3 harg3 arg4 harg4 arg5 harg5 arg6 harg6) K := by
  simp only [cc0__phase_b_eq_skeleton]; unfold cc0__phase_b_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg0.eq_unread hf0; obtain rfl := harg1.eq_unread hf1; obtain rfl := harg2.eq_unread hf2; obtain rfl := harg3.eq_unread hf3
  sl_exec
  split
  · rename_i hc
    have hc' : needSlow x0 x1 = 1#1 := by
      revert hc
      sl_unfold_words
      simp only [View.readAt_eq_ld, harg0.read_unread, harg1.read_unread, View.ld_unit_zero (S := S32x1x8732) hz3, View.ld_unit_zero (S := S32x1x1) hz3]
      exact fun h => h
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; swap; · iexact H4
      ipureintro
      rw [View.read_writes_eq_canon _ _ _ (View.cover_of_tiledL _ S1x1.size (by sl_kernel_rfl)), View.canon_unit_zero hz2]
      unfold outTotal tieSum
      rw [if_pos hc']
      sl_unfold_words
      simp only [View.readAt_eq_ld, harg0.read_unread, harg1.read_unread, harg2.read_unread, harg3.read_unread, View.ld_unit_zero (S := S32x1x8732) hz3, View.ld_unit_zero (S := S32x1x1) hz3, View.ld_unit_zero (S := S1x1x1) hz3]
      rfl
    isplitl [H5]
    · iexists _; isplitr; swap; · iexact H5
      ipureintro
      rw [View.read_writes_eq_canon _ _ _ (View.cover_of_tiledL _ S1x1.size (by sl_kernel_rfl)), View.canon_unit_zero hz2]
      unfold outReg
      sl_unfold_words
      simp only [View.readAt_eq_ld, harg0.read_unread, harg1.read_unread, harg2.read_unread, harg3.read_unread, View.ld_unit_zero (S := S32x1x8732) hz3, View.ld_unit_zero (S := S32x1x1) hz3, View.ld_unit_zero (S := S1x1x1) hz3]
    iexists _; isplitr; swap; · iexact H6
    ipureintro
    rw [View.read_writes_eq_canon _ _ _ (View.cover_of_tiledL _ S1x1.size (by sl_kernel_rfl)), View.canon_unit_zero hz2]
    unfold outCls tieSum
    rw [if_pos hc']
    sl_unfold_words
    simp only [View.readAt_eq_ld, harg0.read_unread, harg1.read_unread, harg2.read_unread, harg3.read_unread, View.ld_unit_zero (S := S32x1x8732) hz3, View.ld_unit_zero (S := S32x1x1) hz3, View.ld_unit_zero (S := S1x1x1) hz3]
    rfl
  · rename_i hc
    have hc' : ¬ needSlow x0 x1 = 1#1 := by
      revert hc
      sl_unfold_words
      simp only [View.readAt_eq_ld, harg0.read_unread, harg1.read_unread, View.ld_unit_zero (S := S32x1x8732) hz3, View.ld_unit_zero (S := S32x1x1) hz3]
      exact fun h => h
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; swap; · iexact H4
      ipureintro
      rw [View.read_writes_eq_canon _ _ _ (View.cover_of_tiledL _ S1x1.size (by sl_kernel_rfl)), View.canon_unit_zero hz2]
      unfold outTotal tieSum
      rw [if_neg hc']
      sl_unfold_words
      simp only [View.readAt_eq_ld, harg0.read_unread, harg1.read_unread, harg2.read_unread, harg3.read_unread, View.ld_unit_zero (S := S32x1x8732) hz3, View.ld_unit_zero (S := S32x1x1) hz3, View.ld_unit_zero (S := S1x1x1) hz3]
      rfl
    isplitl [H5]
    · iexists _; isplitr; swap; · iexact H5
      ipureintro
      rw [View.read_writes_eq_canon _ _ _ (View.cover_of_tiledL _ S1x1.size (by sl_kernel_rfl)), View.canon_unit_zero hz2]
      unfold outReg
      sl_unfold_words
      simp only [View.readAt_eq_ld, harg0.read_unread, harg1.read_unread, harg2.read_unread, harg3.read_unread, View.ld_unit_zero (S := S32x1x8732) hz3, View.ld_unit_zero (S := S32x1x1) hz3, View.ld_unit_zero (S := S1x1x1) hz3]
    iexists _; isplitr; swap; · iexact H6
    ipureintro
    rw [View.read_writes_eq_canon _ _ _ (View.cover_of_tiledL _ S1x1.size (by sl_kernel_rfl)), View.canon_unit_zero hz2]
    unfold outCls tieSum
    rw [if_neg hc']
    sl_unfold_words
    simp only [View.readAt_eq_ld, harg0.read_unread, harg1.read_unread, harg2.read_unread, harg3.read_unread, View.ld_unit_zero (S := S32x1x8732) hz3, View.ld_unit_zero (S := S32x1x1) hz3, View.ld_unit_zero (S := S1x1x1) hz3]
    rfl

variable (m : (ℓ : Loc nD τ sig) → Buf (Elt F) ℓ) (ρ : Dev nD → PrngReg)

/-- The proof data of the one pipeline on core `c`: the arrays as the region finds them; after the body each input's
    buffer at its block and each result's at its named value; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outTotal (iblk m c 0 t) (iblk m c 1 t) (iblk m c 2 t) (iblk m c 3 t)
    | ⟨5, _⟩ => outReg (iblk m c 1 t) (iblk m c 2 t)
    | ⟨6, _⟩ => outCls (iblk m c 0 t) (iblk m c 1 t) (iblk m c 3 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outTotal (iblk m c 0 t) (iblk m c 1 t) (iblk m c 2 t) (iblk m c 3 t) := by dsimp only [dats]
theorem after0_5 (c : Dev nD) (t : Fin cfg0.N) : (dats m 0 c).after 5 t = outReg (iblk m c 1 t) (iblk m c 2 t) := by dsimp only [dats]
theorem after0_6 (c : Dev nD) (t : Fin cfg0.N) : (dats m 0 c).after 6 t = outCls (iblk m c 0 t) (iblk m c 1 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1600000 in
/-- The body at the point: the inputs' memrefs hold their blocks, so the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernelRun c _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array at what the proof data says, the other buffers as found, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.SelectIdeal.Gen

end
-- ==== Proof.ScoresOut.lean ====
/- The first call's body at a grid point: what its stores leave in the four outputs' staging buffers, as payloads of the blocks. -/
module

public import proofs.«01_k».proof.Proof.Gen.ScoresIdeal.Value
public import Idealize.ShloMosaic.Lib.Pipeline.Value
public import Idealize.ShloMosaic.Lib.Pipeline.ValueKit
public import Idealize.ShloMosaic.Lib.Tactic

@[expose] public section

noncomputable section

namespace Cert.ScoresIdeal.Value

open Cert.ScoresIdeal Cert.ScoresIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The regression block sum from the three blocks of coordinates and the labels. -/
def regBlk (v1 : Vec F S2x1x8732 .i32) (v25 v26 : Vec F S2x4x8732 .f32) (v28 : Vec F S1x4x8732 .f32) : F .f32 :=
  k0_pay11 (k0_pay4 v1) v25 (k0_pay9 v26) v28 (k0_pay10 v26)

/-- The positives' block sum from the scores and the labels. -/
def clsBlk (v0 : Vec F S2x81x8732 .f32) (v1 : Vec F S2x1x8732 .i32) : F .f32 :=
  k0_pay12 (k0_pay4 v1) (k0_pay5 v0) (k0_pay6 v0 v1)

/-- The first point's four outputs. -/
theorem outs_A (c : Dev nD) (t : Fin cfg0.N) (h : t.val % 16 = 0) :
    outsAt0 m c t.val t.isLt = (k0_pay7 (iblk m c 0 t) (iblk m c 1 t), k0_pay8 (iblk m c 1 t),
      k0_pay1 (regBlk (iblk m c 1 t) (iblk m c 2 t) (iblk m c 3 t) (iblk m c 4 t)) (k0_pay13 (F := F)),
      k0_pay2 (clsBlk (iblk m c 0 t) (iblk m c 1 t)) (k0_pay14 (F := F))) := by
  rw [outsAt0_A m c t h]
  frame_out
  rfl

/-- The later points' four outputs, over what the point before left in the two accumulators. -/
theorem outs_B (c : Dev nD) (t : Fin cfg0.N) (h : ¬ t.val % 16 = 0) :
    outsAt0 m c t.val t.isLt = (k0_pay7 (iblk m c 0 t) (iblk m c 1 t), k0_pay8 (iblk m c 1 t),
      k0_pay1 (regBlk (iblk m c 1 t) (iblk m c 2 t) (iblk m c 3 t) (iblk m c 4 t)) (outsAt0 m c (t.val - 1) (Nat.lt_of_le_of_lt (Nat.sub_le _ _) t.isLt)).2.2.1,
      k0_pay2 (clsBlk (iblk m c 0 t) (iblk m c 1 t)) (outsAt0 m c (t.val - 1) (Nat.lt_of_le_of_lt (Nat.sub_le _ _) t.isLt)).2.2.2) := by
  rw [outsAt0_B m c t h]
  frame_out
  rfl

end Cert.ScoresIdeal.Value

end
-- ==== Proof.ScoresSpec.lean ====
/- The loss's terms at one anchor over the extended reals: the score, and what a positive adds to the two sums. -/
module

public import Idealize.ShloMosaic.Lib.Pointwise

@[expose] public section

noncomputable section

namespace Cert.Ssd

open Idealize.ShloMosaic

/-- The logarithm of the sum of the exponentials of an anchor's class scores. -/
def lse (x : Fin 81 → EReal) : EReal := Ideal.log (∑ c, Ideal.exp (x c))

/-- An anchor's score: `−∞` where the label is positive. -/
def keyTerm (lab : BitVec 32) (x : Fin 81 → EReal) : EReal :=
  Scalar.select (IntOp.cmpi .sgt lab 0#32) (Ideal.ofBits .f32 0xFF800000#32) (lse x - x 0)

/-- The count of the positive labels of an image. -/
def posCount (lab : Fin 8732 → BitVec 32) : BitVec 32 :=
  Finset.univ.fold IntOp.addi 0#32 fun a => (IntOp.cmpi .sgt (lab a) 0#32).setWidth 32

/-- What an anchor adds to the classification sum over the positives. -/
def clsTerm (lab : BitVec 32) (x : Fin 81 → EReal) : EReal :=
  Scalar.select (IntOp.cmpi .sgt lab 0#32)
    (lse x - ∑ c : Fin 81, Scalar.select (IntOp.cmpi .eq (BitVec.ofNat 32 c.val) lab) (x c) 0) 0

/-- The encoded target of an anchor's coordinate: two centres, then two sizes. -/
def target (g n : Fin 4 → EReal) (k : Fin 4) : EReal :=
  if h : k.val < 2 then Ideal.div (Ideal.ofBits .f32 0x41200000#32 * (g k - n k)) (n ⟨2 + k.val, by omega⟩)
  else Ideal.ofBits .f32 0x40A00000#32 * Ideal.log (Ideal.div (g ⟨2 + (k.val - 2), by omega⟩) (n ⟨2 + (k.val - 2), by omega⟩))

/-- The smooth absolute value of a difference. -/
def smooth (d : EReal) : EReal :=
  if FloatOps.absf (F := Ideal) (φ := .f32) d < (1 : EReal) then Ideal.ofBits .f32 0x3F000000#32 * d * d
  else (FloatOps.absf (F := Ideal) (φ := .f32) d : EReal) - Ideal.ofBits .f32 0x3F000000#32

/-- What an anchor's coordinate adds to the regression sum. -/
def regTerm (lab : BitVec 32) (b g n : Fin 4 → EReal) (k : Fin 4) : EReal :=
  Scalar.select (IntOp.cmpi .sgt lab 0#32) (smooth (b k - target g n k)) 0

end Cert.Ssd

end
-- ==== Proof.ScoresFinal.lean ====
/- The first call's four result arrays over the extended reals, each as one function of the arguments. -/
module

public import proofs.«01_k».proof.Proof.ScoresOut
public import proofs.«01_k».proof.Proof.ScoresSpec
public import Idealize.ShloMosaic.Lib.Pointwise
public import Idealize.ShloMosaic.Lib.Pipeline.ValueKit

@[expose] public section

set_option maxRecDepth 16384

noncomputable section

namespace Cert.ScoresIdeal.Value

open Cert.ScoresIdeal Cert.ScoresIdeal.Gen Idealize.ShloMosaic Idealize.ShloMosaic.TcCoe Idealize.SL.Sem
open Idealize.ShloMosaic.Pipeline (Dat)
open Cert.Ssd

/-- The score block at an anchor. -/
theorem pay7_apply (v0 : Vec Ideal S2x81x8732 .f32) (v1 : Vec Ideal S2x1x8732 .i32) (r : Fin 2) (a : Fin 8732) :
    k0_pay7 v0 v1 (ix3 r 0 a) = keyTerm (v1 (ix3 r 0 a)) (fun ch => v0 (ix3 r ch a)) := by
  pointwise [k0_pay7, k0_pay5, k0_pay4, k0_pay3]
  rfl

/-- The count block at an image. -/
theorem pay8_apply (v1 : Vec Ideal S2x1x8732 .i32) (r : Fin 2) :
    k0_pay8 (F := Ideal) v1 (ix3 r 0 0) = posCount (fun a => v1 (ix3 r 0 a)) := by
  pointwise [k0_pay8, k0_pay4, k0_pay3]
  rfl

/-- The positives' block sum. -/
theorem clsBlk_eq (v0 : Vec Ideal S2x81x8732 .f32) (v1 : Vec Ideal S2x1x8732 .i32) :
    clsBlk v0 v1 = ∑ r : Fin 2, ∑ a : Fin 8732, clsTerm (v1 (ix3 r 0 a)) (fun ch => v0 (ix3 r ch a)) := by
  pointwise [clsBlk, k0_pay12]
  rw [Ideal.reduceAdd_total _ (by decide), sum_idx4, Fin.sum_univ_one]
  refine Finset.sum_congr rfl fun r _ => (Fin.sum_univ_one _).trans (Finset.sum_congr rfl fun a _ => ?_)
  pointwise [k0_pay5, k0_pay6, k0_pay4, k0_pay3]
  rfl

/-- The regression block sum. -/
theorem regBlk_eq (v1 : Vec Ideal S2x1x8732 .i32) (v25 v26 : Vec Ideal S2x4x8732 .f32) (v28 : Vec Ideal S1x4x8732 .f32) :
    regBlk v1 v25 v26 v28 = ∑ r : Fin 2, ∑ k : Fin 4, ∑ a : Fin 8732,
      regTerm (v1 (ix3 r 0 a)) (fun k => v25 (ix3 r k a)) (fun k => v26 (ix3 r k a)) (fun k => v28 (ix3 0 k a)) k := by
  pointwise [regBlk, k0_pay11]
  rw [Ideal.reduceAdd_total _ (by decide), sum_idx4, Fin.sum_univ_one]
  refine Finset.sum_congr rfl fun r _ => Finset.sum_congr rfl fun k _ => Finset.sum_congr rfl fun a _ => ?_
  pointwise [k0_pay9, k0_pay10, k0_pay4, k0_pay3]
  rfl

variable (m : (ℓ : Loc nD τ sig) → Buf (Elt Ideal) ℓ) (ρ : Dev nD → PrngReg)

/-- The windows' index maps, at every point. -/
theorem idx0 : ∀ t : Fin cfg0.N, win0_0.index t = ![(grid0.coords t 0).val, 0, 0] ∧ win0_1.index t = ![(grid0.coords t 0).val, 0, 0]
    ∧ win0_2.index t = ![(grid0.coords t 0).val, 0, 0] ∧ win0_3.index t = ![(grid0.coords t 0).val, 0, 0] ∧ win0_4.index t = ![0, 0, 0]
    ∧ win0_5.index t = ![(grid0.coords t 0).val, 0, 0] ∧ win0_6.index t = ![(grid0.coords t 0).val, 0, 0] ∧ (grid0.coords t 0).val = t.val :=
  (by decide +kernel : ∀ t : Fin grid0.N, _)

/-- The image that row `r` of point `t`'s block is. -/
abbrev img (t : Fin 16) (r : Fin 2) : Fin 32 := ⟨t.val * 2 + r.val, by omega⟩

/-- Window 0's block is the class scores of two images. -/
theorem iblk0 (c : Dev nD) (t : Fin 16) (r : Fin 2) (ch : Fin 81) (a : Fin 8732) :
    iblk m c 0 t (ix3 r ch a) = m ((c : Thread nD τ).loc main_arg1) (ix3 (img t r) ch a) := by
  obtain ⟨e0, e1, e2, e3, e4, e5, e6, ec⟩ := idx0 t
  blk_ext! [iblk, V, e0, ec]

/-- Window 1's block is the labels of two images. -/
theorem iblk1 (c : Dev nD) (t : Fin 16) (r : Fin 2) (a : Fin 8732) :
    iblk m c 1 t (ix3 r 0 a) = m ((c : Thread nD τ).loc main_arg3) (ix2 (img t r) a) := by
  obtain ⟨e0, e1, e2, e3, e4, e5, e6, ec⟩ := idx0 t
  blk_ext! [iblk, V, e1, ec]

/-- Window 2's block is the offsets of two images. -/
theorem iblk2 (c : Dev nD) (t : Fin 16) (r : Fin 2) (k : Fin 4) (a : Fin 8732) :
    iblk m c 2 t (ix3 r k a) = m ((c : Thread nD τ).loc main_arg0) (ix3 (img t r) k a) := by
  obtain ⟨e0, e1, e2, e3, e4, e5, e6, ec⟩ := idx0 t
  blk_ext! [iblk, V, e2, ec]

/-- Window 3's block is the boxes of two images, coordinates first. -/
theorem iblk3 (c : Dev nD) (t : Fin 16) (r : Fin 2) (k : Fin 4) (a : Fin 8732) :
    iblk m c 3 t (ix3 r k a) = m ((c : Thread nD τ).loc main_arg2) (ix3 (img t r) a k) := by
  obtain ⟨e0, e1, e2, e3, e4, e5, e6, ec⟩ := idx0 t
  blk_ext! [iblk, V, e3, ec]

/-- Window 4's block is the anchors. -/
theorem iblk4 (c : Dev nD) (t : Fin 16) (k : Fin 4) (a : Fin 8732) :
    iblk m c 4 t (ix3 0 k a) = m ((c : Thread nD τ).loc main_arg4) (ix3 0 k a) := by
  obtain ⟨e0, e1, e2, e3, e4, e5, e6, ec⟩ := idx0 t
  blk_ext! [iblk, V, e4, ec]

/-- The scores. -/
def keys (c : Dev nD) : Vec Ideal S32x1x8732 .f32 := fun i =>
  keyTerm (m ((c : Thread nD τ).loc main_arg3) (ix2 (i 0) (i 2))) fun ch => m ((c : Thread nD τ).loc main_arg1) (ix3 (i 0) ch (i 2))

/-- The positives of each image. -/
def counts (c : Dev nD) : Vec Ideal S32x1x1 .i32 := fun i =>
  posCount fun a => m ((c : Thread nD τ).loc main_arg3) (ix2 (i 0) a)

/-- The regression sum. -/
def regSum (c : Dev nD) : EReal := ∑ b : Fin 32, ∑ k : Fin 4, ∑ a : Fin 8732,
  regTerm (m ((c : Thread nD τ).loc main_arg3) (ix2 b a)) (fun k => m ((c : Thread nD τ).loc main_arg0) (ix3 b k a))
    (fun k => m ((c : Thread nD τ).loc main_arg2) (ix3 b a k)) (fun k => m ((c : Thread nD τ).loc main_arg4) (ix3 0 k a)) k

/-- The positives' sum. -/
def clsSum (c : Dev nD) : EReal := ∑ b : Fin 32, ∑ a : Fin 8732,
  clsTerm (m ((c : Thread nD τ).loc main_arg3) (ix2 b a)) fun ch => m ((c : Thread nD τ).loc main_arg1) (ix3 b ch a)

/-- The scores' component of what a point leaves. -/
theorem outs_key (c : Dev nD) (t : Fin cfg0.N) : (outsAt0 m c t.val t.isLt).1 = k0_pay7 (iblk m c 0 t) (iblk m c 1 t) := by
  by_cases h : t.val % 16 = 0
  · rw [outs_A m c t h]
  · rw [outs_B m c t h]

/-- The counts' component of what a point leaves. -/
theorem outs_count (c : Dev nD) (t : Fin cfg0.N) : (outsAt0 m c t.val t.isLt).2.1 = k0_pay8 (iblk m c 1 t) := by
  by_cases h : t.val % 16 = 0
  · rw [outs_A m c t h]
  · rw [outs_B m c t h]

/-- The scores' array after the run. -/
theorem final5 (c : Dev nD) : (dats m 0 c).arrAt 5 cfg0.N = keys m c := by
  refine (dats m 0 c).arrAt_eq_of_covers 5 _ (by decide +kernel) fun t hf y => ?_
  blk_simp
  rw [after0_5, outs_key]
  obtain ⟨e0, e1, e2, e3, e4, e5, e6, ec⟩ := idx0 t
  obtain ⟨r, a, rfl⟩ : ∃ (r : Fin 2) (a : Fin 8732), y = ix3 r 0 a :=
    ⟨y 0, y 2, funext fun b => by fin_cases b <;> first | rfl | exact Subsingleton.elim (α := Fin 1) _ _⟩
  have he : (win0_5.blk t).view.emb (ix3 r 0 a) = ix3 (img t r) 0 a := by blk_ext [e5, ec]
  rw [he]
  refine (pay7_apply _ _ r a).trans ?_
  rw [iblk1 m c t r a]
  simp only [iblk0 m c t r]
  rfl

/-- The counts' array after the run. -/
theorem final6 (c : Dev nD) : (dats m 0 c).arrAt 6 cfg0.N = counts m c := by
  refine (dats m 0 c).arrAt_eq_of_covers 6 _ (by decide +kernel) fun t hf y => ?_
  blk_simp
  rw [after0_6, outs_count]
  obtain ⟨e0, e1, e2, e3, e4, e5, e6, ec⟩ := idx0 t
  obtain ⟨r, rfl⟩ : ∃ (r : Fin 2), y = ix3 r 0 0 :=
    ⟨y 0, funext fun b => by fin_cases b <;> first | rfl | exact Subsingleton.elim (α := Fin 1) _ _⟩
  have he : (win0_6.blk t).view.emb (ix3 r 0 0) = ix3 (img t r) 0 0 := by blk_ext [e6, ec]
  rw [he]
  refine (pay8_apply _ r).trans ?_
  simp only [iblk1 m c t r]
  rfl

/-- The regression sum's array after the run. -/
theorem final7 (c : Dev nD) : (dats m 0 c).arrAt 7 cfg0.N = fun _ => regSum m c := by
  refine (dats m 0 c).arrAt_eq_of_after_last 7 t0_15 (by decide +kernel) _ fun j => ?_
  blk_simp
  rw [after0_7]
  have hs := Pipeline.eq_sum_fin_of_reset_step_apply_last (fun n h => (outsAt0 m c n h).2.2.1) 16 (fun _ => (0 : EReal))
    (fun t _ => regBlk (iblk m c 1 t) (iblk m c 2 t) (iblk m c 3 t) (iblk m c 4 t))
    (fun t h j => by rw [outs_A m c t h]; pointwise [k0_pay1, k0_pay13])
    (fun t h j => by rw [outs_B m c t h]; pointwise [k0_pay1])
    (by decide) t0_15 rfl j
  refine hs.trans ((zero_add _).trans ?_)
  unfold regSum
  refine Eq.trans (Finset.sum_congr rfl fun p _ => ?_) (Fin.sum_mul_add_fin (S := 16) (n := 2) (L := 32) _)
  refine (regBlk_eq _ _ _ _).trans (Finset.sum_congr rfl fun r _ => Finset.sum_congr rfl fun k _ => Finset.sum_congr rfl fun a _ => ?_)
  rw [iblk1 m c p r a]
  simp only [iblk2 m c p r, iblk3 m c p r, iblk4 m c p]

/-- The positives' sum's array after the run. -/
theorem final8 (c : Dev nD) : (dats m 0 c).arrAt 8 cfg0.N = fun _ => clsSum m c := by
  refine (dats m 0 c).arrAt_eq_of_after_last 8 t0_15 (by decide +kernel) _ fun j => ?_
  blk_simp
  rw [after0_8]
  have hs := Pipeline.eq_sum_fin_of_reset_step_apply_last (fun n h => (outsAt0 m c n h).2.2.2) 16 (fun _ => (0 : EReal))
    (fun t _ => clsBlk (iblk m c 0 t) (iblk m c 1 t))
    (fun t h j => by rw [outs_A m c t h]; pointwise [k0_pay2, k0_pay14])
    (fun t h j => by rw [outs_B m c t h]; pointwise [k0_pay2])
    (by decide) t0_15 rfl j
  refine hs.trans ((zero_add _).trans ?_)
  unfold clsSum
  refine Eq.trans (Finset.sum_congr rfl fun p _ => ?_) (Fin.sum_mul_add_fin (S := 16) (n := 2) (L := 32) _)
  refine (clsBlk_eq _ _).trans (Finset.sum_congr rfl fun r _ => Finset.sum_congr rfl fun a _ => ?_)
  rw [iblk1 m c p r a]
  simp only [iblk0 m c p r]

/-- The first call's run read: the four results as functions of the arguments, the arguments unchanged. -/
theorem run : θ_run defs (onTc (τ := τ) (main (F := Ideal))) ⟨m, fun _ => 0, ρ⟩ fun r => ∀ c : Dev nD,
      r.2.mem ((c : Thread nD τ).loc main_v2_0) = keys m c
      ∧ r.2.mem ((c : Thread nD τ).loc main_v2_1) = counts m c
      ∧ r.2.mem ((c : Thread nD τ).loc main_v2_2) = (fun _ => regSum m c)
      ∧ r.2.mem ((c : Thread nD τ).loc main_v2_3) = (fun _ => clsSum m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨h5, h6, h7, h8, hr⟩ := h c
    exact ⟨h5.trans (final5 m c), h6.trans (final6 m c), h7.trans (final7 m c), h8.trans (final8 m c), hr⟩) (run_blocks m ρ)

end Cert.ScoresIdeal.Value

end
-- ==== Proof.ScoresAlgebra.lean ====
/- The logarithm of a softmax over the reals, with and without the maximum taken out first. -/
module

public import proofs.«01_k».proof.Proof.ScoresSpec
public import Idealize.ShloMosaic.Lib.Affine

@[expose] public section

noncomputable section

namespace Cert.Ssd

open Idealize.ShloMosaic

/-- The word of minus infinity reads as the least extended real. -/
theorem ofBits_ninf : Ideal.ofBits .f32 0xFF800000#32 = ⊥ := by simp [Ideal.ofBits, Ideal.ieee]

/-- The word of plus infinity reads as the greatest extended real. -/
theorem ofBits_pinf : Ideal.ofBits .f32 0x7F800000#32 = ⊤ := by simp [Ideal.ofBits, Ideal.ieee]

/-- The maximum of an anchor's class scores, as the reference takes it. -/
def top (x : Fin 81 → EReal) : EReal :=
  max (Ideal.ofBits .f32 0xFF800000#32) (Finset.univ.fold max (Ideal.ofBits .f32 0xFF800000#32) x)

/-- The maximum of real class scores is a real number. -/
theorem top_real (x : Fin 81 → EReal) (h : ∀ c, x c ≠ ⊤ ∧ x c ≠ ⊥) : ∃ μ : ℝ, top x = (μ : EReal) := by
  have e : top x = Finset.univ.fold max ⊥ x := by unfold top; rw [ofBits_ninf]; exact max_eq_right bot_le
  refine ⟨(top x).toReal, (EReal.coe_toReal ?_ ?_).symm⟩
  · rw [e]; exact ne_of_lt ((Finset.fold_max_lt _).2 ⟨bot_lt_top, fun c _ => lt_top_iff_ne_top.2 (h c).1⟩)
  · rw [e]; exact ne_of_gt ((Finset.lt_fold_max _).2 (Or.inr ⟨0, Finset.mem_univ _, bot_lt_iff_ne_bot.2 (h 0).2⟩))

/-- A finite sum of real numbers is the sum in the extended reals. -/
theorem coe_sum {ι : Type} (s : Finset ι) (f : ι → ℝ) : ∑ c ∈ s, (f c : EReal) = ((∑ c ∈ s, f c : ℝ) : EReal) := by
  classical
  induction s using Finset.induction_on with
  | empty => simp
  | insert a s ha ih => rw [Finset.sum_insert ha, Finset.sum_insert ha, ih, EReal.coe_add]

/-- The logarithm of the shifted exponentials' sum is the unshifted one less the shift. -/
theorem log_shift (y : Fin 81 → ℝ) (μ : ℝ) :
    Ideal.log (∑ c, Ideal.exp ((y c : EReal) - (μ : EReal))) = ((Real.log (∑ c, Real.exp (y c)) - μ : ℝ) : EReal) := by
  have e : ∀ c, Ideal.exp ((y c : EReal) - (μ : EReal)) = ((Real.exp (y c) * Real.exp (-μ) : ℝ) : EReal) := fun c => by
    rw [← EReal.coe_sub, Ideal.exp_coe, sub_eq_add_neg, Real.exp_add]
  have hp : 0 < ∑ c : Fin 81, Real.exp (y c) := Finset.sum_pos (fun c _ => Real.exp_pos _) ⟨0, Finset.mem_univ _⟩
  rw [Finset.sum_congr rfl fun c _ => e c, coe_sum, ← Finset.sum_mul, Ideal.log_coe,
    if_neg (not_le.2 (mul_pos hp (Real.exp_pos _))), Real.log_mul hp.ne' (Real.exp_pos _).ne', Real.log_exp, sub_eq_add_neg]

/-- The logarithm of the exponentials' sum of real numbers. -/
theorem lse_coe (y : Fin 81 → ℝ) : lse (fun c => (y c : EReal)) = ((Real.log (∑ c, Real.exp (y c)) : ℝ) : EReal) := by
  have := log_shift y 0
  simpa [lse] using this

/-- Minus the logarithm of the softmax at a class, the maximum taken out first, is the logarithm of the sum less the score. -/
theorem neg_logSoftmax (x : Fin 81 → EReal) (h : ∀ c, x c ≠ ⊤ ∧ x c ≠ ⊥) (j : Fin 81) :
    -(x j - top x - Ideal.log (∑ c, Ideal.exp (x c - top x))) = lse x - x j := by
  obtain ⟨μ, hμ⟩ := top_real x h
  obtain ⟨y, rfl⟩ : ∃ y : Fin 81 → ℝ, x = fun c => (y c : EReal) :=
    ⟨fun c => (x c).toReal, funext fun c => (EReal.coe_toReal (h c).1 (h c).2).symm⟩
  rw [hμ, log_shift, lse_coe, ← EReal.coe_sub, ← EReal.coe_sub, ← EReal.coe_sub, ← EReal.coe_neg]
  congr 1; ring

/-- The score a label picks, as a sum over the classes that keeps one term. -/
theorem sum_pick (x : Fin 81 → EReal) (lab : BitVec 32) (hl : lab.toNat < 81) :
    ∑ c : Fin 81, Scalar.select (IntOp.cmpi .eq (BitVec.ofNat 32 c.val) lab) (x c) 0 = x ⟨lab.toNat, hl⟩ := by
  rw [Finset.sum_eq_single (⟨lab.toNat, hl⟩ : Fin 81)]
  · rw [show BitVec.ofNat 32 lab.toNat = lab by simp, IntOp.cmpi_eq.2 rfl]; rfl
  · intro c _ hc
    have : ¬ IntOp.cmpi .eq (BitVec.ofNat 32 c.val) lab = 1#1 := fun e => hc (Fin.ext (by
      have e := congrArg BitVec.toNat (IntOp.cmpi_eq.1 e)
      rw [BitVec.toNat_ofNat] at e; have := c.isLt; simp only; omega))
    exact if_neg this
  · intro hc; exact absurd (Finset.mem_univ _) hc

end Cert.Ssd

end
-- ==== Proof.ScoresRefFinal.lean ====
/- The first call's reference over the extended reals: its four results, each as one function of the arguments. -/
module

public import proofs.«01_k».proof.Proof.Gen.ScoresRefIdeal.Run
public import proofs.«01_k».proof.Proof.ScoresSpec
public import Idealize.ShloMosaic.Lib.Pointwise
public import proofs.«01_k».proof.Proof.ScoresAlgebra
public import Idealize.ShloMosaic.Lib.Claim
public import Idealize.ShloMosaic.Lib.ReduceAll
public import Idealize.ShloMosaic.Lib.WordCmp

@[expose] public section

set_option maxRecDepth 16384

noncomputable section

namespace Cert.ScoresRefIdeal.Value

open Cert.ScoresRefIdeal Cert.ScoresRefIdeal.Gen Idealize.ShloMosaic Idealize.ShloMosaic.TcCoe Idealize.SL.Sem
open Cert.Ssd

variable (m : (ℓ : Loc nD τ sig) → Buf (Elt Ideal) ℓ) (ρ : Dev nD → PrngReg)

/-- The reference's maximum over the classes. -/
def mx (x : FVec Ideal S32x81x8732 .f32) : FVec Ideal S32x8732 .f32 :=
  maximumf (broadcastInDim S32x8732 ![] bcast_S_S32x8732 (constant S_ .f32 0xFF800000#32)) (Host.reduce FloatOps.maximumf x (constant S_ .f32 0xFF800000#32) reducesTo_S32x81x8732_S32x8732_d1 h_S_)

/-- The reference's scores less their maximum. -/
def shf (x : FVec Ideal S32x81x8732 .f32) : FVec Ideal S32x81x8732 .f32 :=
  subf x (broadcastInDim S32x81x8732 ![0, 1, 2] bcast_S32x1x8732_S32x81x8732_0_1_2 (broadcastInDim S32x1x8732 ![0, 2] bcast_S32x8732_S32x1x8732_0_2 (mx x)))

/-- The reference's logarithm of the softmax. -/
def lsm (x : FVec Ideal S32x81x8732 .f32) : FVec Ideal S32x81x8732 .f32 :=
  subf (shf x) (broadcastInDim S32x81x8732 ![0, 1, 2] bcast_S32x1x8732_S32x81x8732_0_1_2 (Host.log (broadcastInDim S32x1x8732 ![0, 2] bcast_S32x8732_S32x1x8732_0_2 (Host.reduceAdd (Host.exp (shf x)) (constant S_ .f32 0x00000000#32) reducesTo_S32x81x8732_S32x8732_d1 h_S_))))

/-- The reduction by maximum at an anchor. -/
theorem red_apply (x : FVec Ideal S32x81x8732 .f32) (b : Fin 32) (a : Fin 8732) :
    Host.reduce FloatOps.maximumf x (constant S_ .f32 0xFF800000#32) reducesTo_S32x81x8732_S32x8732_d1 h_S_ (ix2 b a)
      = (Finset.univ : Finset (Fin 81)).fold max (Ideal.ofBits .f32 0xFF800000#32 : EReal) fun c => (x (ix3 b c a) : EReal) := by
  have e : Host.reduce FloatOps.maximumf x (constant S_ .f32 0xFF800000#32) reducesTo_S32x81x8732_S32x8732_d1 h_S_ (ix2 b a)
      = (Finset.univ.filter fun i => reducesTo_S32x81x8732_S32x8732_d1.drop i = ix2 b a).fold max (Ideal.ofBits .f32 0xFF800000#32 : EReal) x := Host.reduce_eq_fold (α := EReal) max x (fun _ => Ideal.ofBits .f32 0xFF800000#32) reducesTo_S32x81x8732_S32x8732_d1 h_S_ (ix2 b a)
  exact e.trans (reducesTo_S32x81x8732_S32x8732_d1.fold_fiber_r3_a1 (ix2 b a) max _ x)

/-- A maximum with the constant minus infinity at an anchor. -/
theorem mxR (R : FVec Ideal S32x8732 .f32) (j : S32x8732.Idx) :
    maximumf (broadcastInDim S32x8732 ![] bcast_S_S32x8732 (constant S_ .f32 0xFF800000#32)) R j
      = (max (Ideal.ofBits .f32 0xFF800000#32) (R j : EReal) : EReal) := rfl

/-- The maximum over the classes at an anchor. -/
theorem mx_apply (x : FVec Ideal S32x81x8732 .f32) (b : Fin 32) (a : Fin 8732) : mx x (ix2 b a) = top fun ch => x (ix3 b ch a) :=
  (mxR _ _).trans (congrArg (max (Ideal.ofBits .f32 0xFF800000#32 : EReal)) (red_apply x b a))

/-- The scores less their maximum at an anchor. -/
theorem shf_apply (x : FVec Ideal S32x81x8732 .f32) (b : Fin 32) (c : Fin 81) (a : Fin 8732) :
    shf x (ix3 b c a) = (x (ix3 b c a) - top fun ch => x (ix3 b ch a) : EReal) := by
  rw [← mx_apply]
  unfold shf
  generalize mx x = M
  pointwise

/-- The logarithm of the softmax at an anchor. -/
theorem lsm_apply (x : FVec Ideal S32x81x8732 .f32) (b : Fin 32) (c : Fin 81) (a : Fin 8732) :
    lsm x (ix3 b c a) = (x (ix3 b c a) - (top fun ch => x (ix3 b ch a))
      - Ideal.log (∑ c, Ideal.exp (x (ix3 b c a) - top fun ch => x (ix3 b ch a))) : EReal) := by
  simp only [← shf_apply]
  unfold lsm
  generalize shf x = M
  pointwise

/-- The reference's gather along the classes reads the score of the labelled class, when the label is a class. -/
theorem gather_apply {α : Type} (x : S32x81x8732.Idx → α) (idx : IVec S32x1x8732x1 32) (b : Fin 32) (a : Fin 8732)
    (hl : (idx (ix4 b 0 a 0)).toInt.toNat < 81) :
    Host.gather gather_S32x81x8732_S32x1x8732x1_S32x1x8732_n_1_02_02_1_3_111 x idx (ix3 b 0 a)
      = x (ix3 b ⟨(idx (ix4 b 0 a 0)).toInt.toNat, hl⟩ a) := by
  have e : gather_S32x81x8732_S32x1x8732x1_S32x1x8732_n_1_02_02_1_3_111.operandIdx (ix3 b 0 a) idx
      = ix3 b ⟨(idx (ix4 b 0 a 0)).toInt.toNat, hl⟩ a := by
    funext k
    apply Fin.ext
    have hi : gather_S32x81x8732_S32x1x8732x1_S32x1x8732_n_1_02_02_1_3_111.siIdx (ix3 b 0 a) (0 : Fin 1) = ix4 b 0 a 0 := by
      funext q
      match q with
      | ⟨0, _⟩ => rfl
      | ⟨1, _⟩ => rfl
      | ⟨2, _⟩ => rfl
      | ⟨3, _⟩ => rfl
    match k with
    | ⟨0, _⟩ => show 0 + b.val + 0 = b.val; omega
    | ⟨1, _⟩ =>
      show min (idx (gather_S32x81x8732_S32x1x8732x1_S32x1x8732_n_1_02_02_1_3_111.siIdx (ix3 b 0 a) (0 : Fin 1))).toInt.toNat 80 + 0 + 0 = (idx (ix4 b 0 a 0)).toInt.toNat
      rw [hi]; omega
    | ⟨2, _⟩ => show 0 + a.val + 0 = a.val; omega
  exact congrArg x e

/-- The reference's wrapped labels, as the gather's indices. -/
def labIdx (lab : IVec S32x8732 32) : IVec S32x1x8732x1 32 := (shapeCast _ (select (cmpi .slt (broadcastInDim S32x1x8732 ![0, 2] bcast_S32x8732_S32x1x8732_0_2 lab) (broadcastInDim S32x1x8732 ![] bcast_S_S32x1x8732 (constantI S_ 32 0#32))) (addi (broadcastInDim S32x1x8732 ![0, 2] bcast_S32x8732_S32x1x8732_0_2 lab) (broadcastInDim S32x1x8732 ![] bcast_S_S32x1x8732 (constantI S_ 32 81#32))) (broadcastInDim S32x1x8732 ![0, 2] bcast_S32x8732_S32x1x8732_0_2 lab)) shapeCasts_S32x1x8732_S32x1x8732x1)

/-- Which of the gather's indices are classes. -/
def inRange (I : IVec S32x1x8732x1 32) : IVec S32x1x8732 1 := (Host.reduce IntOp.andi (andi (cmpi .sge I (broadcastInDim S32x1x8732x1 ![] bcast_S_S32x1x8732x1 (constantI S_ 32 0#32))) (cmpi .sle I (broadcastInDim S32x1x8732x1 ![0, 1, 2, 3] bcast_S1x1x1x1_S32x1x8732x1_0_1_2_3 (broadcastInDim S1x1x1x1 ![3] bcast_S1_S1x1x1x1_3 (constantI S1 32 80#32))))) (constantI S_ 1 1#1) reducesTo_S32x1x8732x1_S32x1x8732_d3 h_S_)

/-- The reference's scores, of the logarithm of the softmax. -/
def keysOf (M : FVec Ideal S32x81x8732 .f32) (lab : IVec S32x8732 32) : FVec Ideal S32x1x8732 .f32 := broadcastInDim S32x1x8732 ![0, 2] bcast_S32x8732_S32x1x8732_0_2 (select (cmpi .sgt lab (broadcastInDim S32x8732 ![] bcast_S_S32x8732 (constantI S_ 32 0#32))) (broadcastInDim S32x8732 ![] bcast_S_S32x8732 (id (constant S_ .f32 0xFF800000#32))) (Host.negf (shapeCast _ (extractStridedSlice S32x1x8732 ![0, 0, 0] M slices_S32x81x8732_S32x1x8732_0_0_0) shapeCasts_S32x1x8732_S32x8732)))

/-- The reference's sum over the positives, of the logarithm of the softmax. -/
def clsOf (M : FVec Ideal S32x81x8732 .f32) (lab : IVec S32x8732 32) : FVec Ideal S1x1x1 .f32 := shapeCast _ (Host.reduceAdd (select (cmpi .sgt lab (broadcastInDim S32x8732 ![] bcast_S_S32x8732 (constantI S_ 32 0#32))) (Host.negf (shapeCast _ (select (inRange (labIdx lab)) (Host.gather gather_S32x81x8732_S32x1x8732x1_S32x1x8732_n_1_02_02_1_3_111 M (labIdx lab)) (broadcastInDim S32x1x8732 ![] bcast_S_S32x1x8732 (constant S_ .f32 0x7FC00000#32))) shapeCasts_S32x1x8732_S32x8732)) (broadcastInDim S32x8732 ![] bcast_S_S32x8732 (id (constant S_ .f32 0x00000000#32)))) (constant S_ .f32 0x00000000#32) reducesTo_S32x8732_S_d0_1 h_S_) shapeCasts_S_S1x1x1

/-- The reference's counts. -/
def countsOf (lab : IVec S32x8732 32) : IVec S32x1x1 32 := broadcastInDim S32x1x1 ![0, 2] bcast_S32x1_S32x1x1_0_2 (broadcastInDim S32x1 ![0] bcast_S32_S32x1_0 (Host.reduce IntOp.addi (extui 32 (cmpi .sgt lab (broadcastInDim S32x8732 ![] bcast_S_S32x8732 (constantI S_ 32 0#32))) natLt_1_32) (constantI S_ 32 0#32) reducesTo_S32x8732_S32_d1 h_S_))

/-- The scores at an anchor. -/
theorem keysOf_apply (M : FVec Ideal S32x81x8732 .f32) (lab : IVec S32x8732 32) (i : S32x1x8732.Idx) :
    keysOf M lab i = Scalar.select (IntOp.cmpi .sgt (lab (ix2 (i 0) (i 2))) 0#32) (Ideal.ofBits .f32 0xFF800000#32 : EReal)
      (-(M (ix3 (i 0) 0 (i 2)) : EReal)) := by
  pointwise [keysOf]
  rfl

/-- The counts at an image. -/
theorem countsOf_apply (lab : IVec S32x8732 32) (i : S32x1x1.Idx) :
    countsOf lab i = posCount fun a => lab (ix2 (i 0) a) := by
  pointwise [countsOf]
  first | rfl | exact reducesTo_S32x8732_S32_d1.fold_fiber_r2_a1 _ IntOp.addi _ _

/-- A label that is a class is not wrapped. -/
theorem labIdx_apply (lab : IVec S32x8732 32) (b : Fin 32) (a : Fin 8732) (h : 0 ≤ (lab (ix2 b a)).toInt) :
    labIdx lab (ix4 b 0 a 0) = lab (ix2 b a) := by
  have e : labIdx lab (ix4 b 0 a 0) = Scalar.select (IntOp.cmpi .slt (lab (ix2 b a)) 0#32) (IntOp.addi (lab (ix2 b a)) 81#32) (lab (ix2 b a)) := by
    pointwise [labIdx]
  rw [e]
  exact if_neg fun h' => absurd (IntOp.cmpi_slt.1 h') (not_lt.2 (by simpa using h))

/-- Labels that are classes are all in range. -/
theorem inRange_one (lab : IVec S32x8732 32) (h : ∀ i, 0 ≤ (lab i).toInt) (h' : ∀ i, (lab i).toInt < 81) (j : S32x1x8732.Idx) :
    inRange (labIdx lab) j = 1#1 := by
  refine Host.reduce_andi_one _ _ _ _ _ rfl fun i => ?_
  have hi : i = ix4 (i 0) 0 (i 2) 0 := by
    funext q
    match q with
    | ⟨0, _⟩ => rfl
    | ⟨1, _⟩ => exact Subsingleton.elim (α := Fin 1) _ _
    | ⟨2, _⟩ => rfl
    | ⟨3, _⟩ => exact Subsingleton.elim (α := Fin 1) _ _
  have e : labIdx lab i = lab (ix2 (i 0) (i 2)) := (congrArg (labIdx lab) hi).trans (labIdx_apply lab (i 0) (i 2) (h _))
  have e0 := h (ix2 (i 0) (i 2))
  have e1 := h' (ix2 (i 0) (i 2))
  rw [← e] at e0 e1
  exact IntOp.andi_eq_one.2 ⟨IntOp.cmpi_sge.2 e0, IntOp.cmpi_sle.2 (Int.le_of_lt_add_one e1)⟩

/-- The sum over the positives. -/
theorem clsOf_apply (M : FVec Ideal S32x81x8732 .f32) (lab : IVec S32x8732 32) (h : ∀ i, 0 ≤ (lab i).toInt) (h' : ∀ i, (lab i).toInt < 81)
    (hl : ∀ b a, (lab (ix2 b a)).toInt.toNat < 81) (j : S1x1x1.Idx) :
    clsOf M lab j = ∑ b : Fin 32, ∑ a : Fin 8732, Scalar.select (IntOp.cmpi .sgt (lab (ix2 b a)) 0#32)
      (-(M (ix3 b ⟨(lab (ix2 b a)).toInt.toNat, hl b a⟩ a) : EReal)) (0 : EReal) := by
  have hr := inRange_one lab h h'
  unfold clsOf
  generalize hR : inRange (labIdx lab) = R at *
  have hG : ∀ b a, Host.gather gather_S32x81x8732_S32x1x8732x1_S32x1x8732_n_1_02_02_1_3_111 M (labIdx lab) (ix3 b 0 a)
      = M (ix3 b ⟨(lab (ix2 b a)).toInt.toNat, hl b a⟩ a) := fun b a => by
    have e := labIdx_apply lab b a (h _)
    have hl' : (labIdx lab (ix4 b 0 a 0)).toInt.toNat < 81 := by rw [e]; exact hl b a
    rw [gather_apply M (labIdx lab) b a hl']
    congr 3
    rw [e]
  generalize Host.gather gather_S32x81x8732_S32x1x8732x1_S32x1x8732_n_1_02_02_1_3_111 M (labIdx lab) = G at *
  pointwise
  refine Finset.sum_congr rfl fun b _ => Finset.sum_congr rfl fun a _ => ?_
  rw [hr, hG b a]
  exact congrArg _ (show Ideal.ofBits .f32 0#32 = 0 by simp [Ideal.ofBits, Ideal.ieee])

/-- The regression sum over all the images. -/
def regSum (c : Dev nD) : EReal := ∑ b : Fin 32, ∑ k : Fin 4, ∑ a : Fin 8732,
  regTerm (m ((c.tc : Thread nD τ).loc main_arg3) (ix2 b a)) (fun k => m ((c.tc : Thread nD τ).loc main_arg0) (ix3 b k a))
    (fun k => m ((c.tc : Thread nD τ).loc main_arg2) (ix3 b a k)) (fun k => m ((c.tc : Thread nD τ).loc main_arg4) (ix3 0 k a)) k

/-- The regression sum with the centres and the sizes apart. -/
theorem regSplit (c : Dev nD) : regSum m c = ∑ b : Fin 32,
    ((∑ x : Fin 2, ∑ a : Fin 8732, regTerm (m ((c.tc : Thread nD τ).loc main_arg3) (ix2 b a)) (fun k => m ((c.tc : Thread nD τ).loc main_arg0) (ix3 b k a))
    (fun k => m ((c.tc : Thread nD τ).loc main_arg2) (ix3 b a k)) (fun k => m ((c.tc : Thread nD τ).loc main_arg4) (ix3 0 k a)) ⟨x.val, by omega⟩)
    + ∑ x : Fin 2, ∑ a : Fin 8732, regTerm (m ((c.tc : Thread nD τ).loc main_arg3) (ix2 b a)) (fun k => m ((c.tc : Thread nD τ).loc main_arg0) (ix3 b k a))
    (fun k => m ((c.tc : Thread nD τ).loc main_arg2) (ix3 b a k)) (fun k => m ((c.tc : Thread nD τ).loc main_arg4) (ix3 0 k a)) ⟨2 + x.val, by omega⟩) :=
  Finset.sum_congr rfl fun b _ => Fin.sum_univ_add (a := 2) (b := 2) fun k : Fin 4 => ∑ a : Fin 8732, regTerm (m ((c.tc : Thread nD τ).loc main_arg3) (ix2 b a)) (fun k => m ((c.tc : Thread nD τ).loc main_arg0) (ix3 b k a))
    (fun k => m ((c.tc : Thread nD τ).loc main_arg2) (ix3 b a k)) (fun k => m ((c.tc : Thread nD τ).loc main_arg4) (ix3 0 k a)) k

/-- The reference's regression sum. -/
theorem reg_apply (c : Dev nD) (j : S1x1x1.Idx) : res_main_v49 m c j = regSum m c := by
  unfold res_main_v49
  pointwise
  have hz : (id (constant (F := Ideal) S_ .f32 0#32) ix0 : EReal) = 0 := by
    show Ideal.ofBits .f32 0#32 = 0
    simp [Ideal.ofBits, Ideal.ieee]
  refine Eq.trans ?_ (regSplit m c).symm
  refine Finset.sum_congr (M := EReal) rfl fun b _ => congrArg₂ (fun u v : EReal => u + v) (Finset.sum_congr (M := EReal) rfl fun k _ => Finset.sum_congr (M := EReal) rfl fun a _ => ?_)
    (Finset.sum_congr (M := EReal) rfl fun k _ => Finset.sum_congr (M := EReal) rfl fun a _ => ?_)
  · rw [hz]
    unfold regTerm target
    rw [dif_pos (show (⟨k.val, by omega⟩ : Fin 4).val < 2 from k.isLt)]
    rfl
  · rw [hz]
    unfold regTerm target
    rw [dif_neg (show ¬ (⟨2 + k.val, by omega⟩ : Fin 4).val < 2 from not_lt.2 (Nat.le_add_right 2 _))]
    simp only [Nat.add_sub_cancel_left]
    rfl

/-- The scores, the counts and the sums of the reference, under the two facts of the precondition. -/
theorem keys_eq (x : FVec Ideal S32x81x8732 .f32) (hx : ∀ i, (x i : EReal) ≠ ⊤ ∧ (x i : EReal) ≠ ⊥) (lab : IVec S32x8732 32) :
    keysOf (lsm x) lab = fun i => keyTerm (lab (ix2 (i 0) (i 2))) fun ch => x (ix3 (i 0) ch (i 2)) := by
  funext i
  exact (keysOf_apply (lsm x) lab i).trans (congrArg (fun q : EReal => Scalar.select (IntOp.cmpi .sgt (lab (ix2 (i 0) (i 2))) 0#32) (Ideal.ofBits .f32 0xFF800000#32 : EReal) q)
    ((congrArg (fun q : EReal => -q) (lsm_apply x (i 0) 0 (i 2))).trans (neg_logSoftmax (fun ch => x (ix3 (i 0) ch (i 2))) (fun _ => hx _) 0)))

/-- A class index of a label that is one, read signed or unsigned. -/
theorem toNat_of_class {l : BitVec 32} (h : 0 ≤ l.toInt) (h' : l.toInt < 81) : l.toNat < 81 ∧ l.toInt.toNat = l.toNat := by
  rw [BitVec.toInt_eq_toNat_cond] at *
  have := l.isLt
  split at h <;> rename_i hc <;> simp only [hc, if_true, if_false] at * <;> omega

/-- The sum over the positives as the specification has it. -/
theorem cls_eq (x : FVec Ideal S32x81x8732 .f32) (hx : ∀ i, (x i : EReal) ≠ ⊤ ∧ (x i : EReal) ≠ ⊥) (lab : IVec S32x8732 32)
    (h : ∀ i, 0 ≤ (lab i).toInt) (h' : ∀ i, (lab i).toInt < 81) :
    clsOf (lsm x) lab = fun _ => (∑ b : Fin 32, ∑ a : Fin 8732, clsTerm (lab (ix2 b a)) fun ch => x (ix3 b ch a) : EReal) := by
  funext j
  rw [clsOf_apply (lsm x) lab h h' fun b a => (toNat_of_class (h _) (h' _)).2 ▸ (toNat_of_class (h _) (h' _)).1]
  refine Finset.sum_congr rfl fun b _ => Finset.sum_congr rfl fun a _ => ?_
  obtain ⟨h0, h1⟩ := toNat_of_class (h (ix2 b a)) (h' (ix2 b a))
  rw [lsm_apply, neg_logSoftmax (fun ch => x (ix3 b ch a)) (fun _ => hx _)]
  unfold clsTerm
  rw [sum_pick _ _ h0]
  rw [show (⟨(lab (ix2 b a)).toInt.toNat, (toNat_of_class (h _) (h' _)).2 ▸ (toNat_of_class (h _) (h' _)).1⟩ : Fin 81) = ⟨(lab (ix2 b a)).toNat, h0⟩ from Fin.ext h1]

/-- The reference's four results, under what the precondition says of its arguments. -/
theorem values (hx : ∀ (c : Dev nD) (i : S32x81x8732.Idx), (m ((c.tc : Thread nD τ).loc main_arg1) i : EReal) ≠ (⊤ : EReal) ∧ (m ((c.tc : Thread nD τ).loc main_arg1) i : EReal) ≠ (⊥ : EReal))
    (h0 : ∀ (c : Dev nD) (i : S32x8732.Idx), 0 ≤ BitVec.toInt (n := 32) (m ((c.tc : Thread nD τ).loc main_arg3) i))
    (h1 : ∀ (c : Dev nD) (i : S32x8732.Idx), BitVec.toInt (n := 32) (m ((c.tc : Thread nD τ).loc main_arg3) i) < 81) :
    θ_run defs (onTc (τ := τ) (main (F := Ideal))) ⟨m, fun _ => 0, ρ⟩ fun r => ∀ c : Dev nD,
      r.2.mem ((c.tc : Thread nD τ).loc main_v47) = (fun i : S32x1x8732.Idx => keyTerm (m ((c.tc : Thread nD τ).loc main_arg3) (ix2 (i 0) (i 2))) fun ch => m ((c.tc : Thread nD τ).loc main_arg1) (ix3 (i 0) ch (i 2)))
      ∧ r.2.mem ((c.tc : Thread nD τ).loc main_v48) = (fun i : S32x1x1.Idx => posCount fun a => m ((c.tc : Thread nD τ).loc main_arg3) (ix2 (i 0) a))
      ∧ r.2.mem ((c.tc : Thread nD τ).loc main_v49) = (fun _ => regSum m c)
      ∧ r.2.mem ((c.tc : Thread nD τ).loc main_v50) = (fun _ => (∑ b : Fin 32, ∑ a : Fin 8732, clsTerm (m ((c.tc : Thread nD τ).loc main_arg3) (ix2 b a)) fun ch => m ((c.tc : Thread nD τ).loc main_arg1) (ix3 b ch a) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run m ρ)
  obtain ⟨e0, e1, e2, e3, hr⟩ := h c
  refine ⟨?_, ?_, ?_, ?_, hr⟩
  · exact e0.trans (keys_eq (m ((c.tc : Thread nD τ).loc main_arg1)) (hx c) (m ((c.tc : Thread nD τ).loc main_arg3)))
  · exact e1.trans (funext fun i => countsOf_apply (m ((c.tc : Thread nD τ).loc main_arg3)) i)
  · exact e2.trans (funext fun i => reg_apply m c i)
  · exact e3.trans (cls_eq (m ((c.tc : Thread nD τ).loc main_arg1)) (hx c) (m ((c.tc : Thread nD τ).loc main_arg3)) (h0 c) (h1 c))

end Cert.ScoresRefIdeal.Value

end
-- ==== Proof.ScoresPre.lean ====
/- What the first call's precondition says of its arguments. -/
module

public import proofs.«01_k».proof.Pre_drawn
public import proofs.«01_k».proof.Proof.ScoresAlgebra
public import Idealize.ShloMosaic.Lib.ReduceAll
public import Idealize.ShloMosaic.Lib.WordCmp

@[expose] public section

noncomputable section

namespace Cert.Ssd

open Idealize.ShloMosaic

variable [hF : Cert.Pre_drawn.Facts]

/-- The class scores are real numbers and the labels are classes. -/
theorem drawn_facts (a0 : FVec Ideal Cert.Pre_drawn.S32x4x8732 .f32) (a1 : FVec Ideal Cert.Pre_drawn.S32x81x8732 .f32)
    (a2 : FVec Ideal Cert.Pre_drawn.S32x8732x4 .f32) (a3 : IVec Cert.Pre_drawn.S32x8732 32) (a4 : FVec Ideal Cert.Pre_drawn.S1x4x8732 .f32)
    (h : Cert.Pre_drawn.fn (F := Ideal) a0 a1 a2 a3 a4 = fun _ => 1#1) :
    (∀ i, (a1 i : EReal) ≠ ⊤ ∧ (a1 i : EReal) ≠ ⊥) ∧ (∀ i, 0 ≤ (a3 i).toInt) ∧ ∀ i, (a3 i).toInt < 81 := by
  have hs : Subsingleton Cert.Pre_drawn.S_.Idx := ⟨fun a b => funext fun k => k.elim0⟩
  have h0 := congrFun h (fun k => k.elim0)
  obtain ⟨h1, h3⟩ := IntOp.andi_eq_one.1 (show IntOp.andi _ _ = 1#1 from h0)
  obtain ⟨h1, h2⟩ := IntOp.andi_eq_one.1 (show IntOp.andi _ _ = 1#1 from h1)
  refine ⟨fun i => ?_, fun i => ?_, fun i => ?_⟩
  · have e := Host.reduce_andi_all _ _ _ _ _ h1 i
    have e : Ideal.cmp .olt (max (a1 i : EReal) (-(a1 i : EReal))) (Ideal.ofBits .f32 0x7F800000#32) = 1#1 := e
    rw [ofBits_pinf] at e
    have e : max (a1 i : EReal) (-(a1 i : EReal)) < ⊤ := of_decide_eq_true ((WordCmp.ofBool_eq_one_iff _).1 e)
    rw [max_lt_iff] at e
    exact ⟨e.1.ne, fun hb => by rw [hb] at e; exact absurd e.2 (by simp)⟩
  · have e := Host.reduce_andi_all _ _ _ _ _ h2 i
    exact IntOp.cmpi_sge.1 e
  · have e := Host.reduce_andi_all _ _ _ _ _ h3 i
    exact IntOp.cmpi_slt.1 e

end Cert.Ssd

end
-- ==== Proof.ScoresClaim.lean ====
/- The first call agrees with its reference over the extended reals, and the references' runs leave every counter at zero. -/
module

public import proofs.«01_k».proof.Defs
public import proofs.«01_k».proof.Proof.ScoresFinal
public import proofs.«01_k».proof.Proof.ScoresRefFinal
public import proofs.«01_k».proof.Proof.ScoresPre
public import proofs.«01_k».proof.Proof.Gen.SelectRefIdeal.Run
public import Idealize.ShloMosaic.Lib.Quiescent

@[expose] public section

noncomputable section

namespace Cert.Parts

open Idealize.ShloMosaic Idealize.ShloMosaic.TcCoe Idealize.SL.Sem

/-- The first call's kernel and reference end at the same scores, counts and sums. -/
theorem algebraicScores [Cert.Pre_drawn.Facts] : Cert.algebraic_ScoresIdeal_ScoresRefIdeal_pre_drawn := by
  intro m g m' g' hp ha
  have hd := fun c => Cert.Ssd.drawn_facts _ _ _ _ _ (hp c)
  have hk := Cert.ScoresIdeal.Value.run m g
  have hr := Cert.ScoresRefIdeal.Value.values m' g' (fun c i => by rw [(ha c).2.1]; exact (hd c).1 i)
    (fun c i => by rw [(ha c).2.2.2.1]; exact (hd c).2.1 i) (fun c i => by rw [(ha c).2.2.2.1]; exact (hd c).2.2 i)
  refine ⟨Cert.ScoresIdeal.Value.keys m, Cert.ScoresIdeal.Value.counts m, fun c _ => Cert.ScoresIdeal.Value.regSum m c,
    fun c _ => Cert.ScoresIdeal.Value.clsSum m c, hk, (θ_run _ _ _).mono (fun r h c => ?_) hr⟩
  obtain ⟨h0, h1, h2, h3, hs⟩ := h c
  obtain ⟨e0, e1, e2, e3, e4⟩ := ha c
  refine ⟨h0.trans ?_, h1.trans ?_, h2.trans ?_, h3.trans ?_, hs⟩
  · rw [e1, e3]; rfl
  · rw [e3]; rfl
  · unfold Cert.ScoresRefIdeal.Value.regSum; rw [e0, e2, e3, e4]; rfl
  · rw [e1, e3]; rfl

/-- The first reference leaves its arguments and every counter as they were. -/
theorem frameScoresRef : Cert.quiescent_ScoresRefIdeal := fun m g _ =>
  (θ_run _ _ _).mono (fun r h => ⟨fun c => (h c).2.2.2.2, sem_eq_zero_of_no_sems rfl r.2⟩) (Cert.ScoresRefIdeal.Value.run m g)

/-- The second reference leaves its arguments and every counter as they were. -/
theorem frameSelectRef : Cert.quiescent_SelectRefIdeal := fun m g _ =>
  (θ_run _ _ _).mono (fun r h => ⟨fun c => (h c).2.2.2, sem_eq_zero_of_no_sems rfl r.2⟩) (Cert.SelectRefIdeal.Value.run m g)

end Cert.Parts

end
-- ==== Proof.HnmSets.lean ====
/- The selection's mathematics: sets of largest values, the two digit searches, and the rank a stable double sort gives. -/
module

public import Idealize.ShloMosaic.PureOps.Ideal
public import Idealize.ShloMosaic.Lib.SortFacts
public import Mathlib.Algebra.BigOperators.Fin

@[expose] public section

noncomputable section

namespace Cert.Hnm

open Idealize.ShloMosaic

/-- Two sets of one size, each holding the largest values, have one sum of values. -/
theorem top_sum {ι : Type} [DecidableEq ι] (S R : Finset ι) (f : ι → EReal) (hc : S.card = R.card)
    (hS : ∀ a ∈ S, ∀ b, b ∉ S → f b ≤ f a) (hR : ∀ a ∈ R, ∀ b, b ∉ R → f b ≤ f a) : ∑ i ∈ S, f i = ∑ i ∈ R, f i := by
  have hd : (S \ R).card = (R \ S).card := by
    have h1 := Finset.card_sdiff_add_card_inter S R
    have h2 := Finset.card_sdiff_add_card_inter R S
    rw [Finset.inter_comm R S] at h2
    omega
  rw [← Finset.sum_inter_add_sum_sdiff S R, ← Finset.sum_inter_add_sum_sdiff R S, Finset.inter_comm R S]
  congr 1
  rcases (S \ R).eq_empty_or_nonempty with h | ⟨a, ha⟩
  · have h' : R \ S = ∅ := Finset.card_eq_zero.1 (by rw [← hd, h, Finset.card_empty])
    rw [h, h']
  · have e : ∀ x ∈ S \ R, ∀ y ∈ R \ S, f x = f y := fun x hx y hy => by
      rw [Finset.mem_sdiff] at hx hy
      exact le_antisymm (hR y hy.1 x hx.2) (hS x hx.1 y hy.2)
    obtain ⟨b, hb⟩ : (R \ S).Nonempty := Finset.card_pos.1 (hd ▸ Finset.card_pos.2 ⟨a, ha⟩)
    rw [Finset.sum_eq_card_nsmul (b := f a) fun x hx => (e x hx b hb).trans (e a ha b hb).symm,
      Finset.sum_eq_card_nsmul (b := f a) fun y hy => (e a ha y hy).symm, hd]

/-- One two-bit step of the threshold search: the largest of the four prefixes that passes, the plain one unasked. -/
def step (P : ℕ → Prop) [DecidablePred P] (q p : ℕ) : ℕ :=
  if P (p + 3 * q) then p + 3 * q else if P (p + 2 * q) then p + 2 * q else if P (p + q) then p + q else p

/-- What the threshold search knows: the prefix passes (or is zero) and the next one of its length does not (or is past the end). -/
def Inv (P : ℕ → Prop) (N q p : ℕ) : Prop := p % q = 0 ∧ p + q ≤ N ∧ (p = 0 ∨ P p) ∧ (p + q = N ∨ ¬ P (p + q))

/-- A step keeps that, four times finer. -/
theorem step_inv (P : ℕ → Prop) [DecidablePred P] (N q p : ℕ) (h : Inv P N (4 * q) p) : Inv P N q (step P q p) := by
  obtain ⟨h0, h1, h2, h3⟩ := h
  have d : q ∣ p := (Dvd.intro_left 4 rfl).trans (Nat.dvd_of_mod_eq_zero h0)
  have m : ∀ c, (p + c * q) % q = 0 := fun c => Nat.mod_eq_zero_of_dvd (d.add (Dvd.intro_left c rfl))
  unfold step
  split
  · rename_i a3
    exact ⟨m 3, by omega, Or.inr a3, by rw [show p + 3 * q + q = p + 4 * q by ring]; exact h3⟩
  · rename_i a3
    split
    · rename_i a2
      exact ⟨m 2, by omega, Or.inr a2, Or.inr (by rw [show p + 2 * q + q = p + 3 * q by ring]; exact a3)⟩
    · rename_i a2
      split
      · rename_i a1
        exact ⟨by have := m 1; rwa [one_mul] at this, by omega, Or.inr a1, Or.inr (by rw [show p + q + q = p + 2 * q by ring]; exact a2)⟩
      · rename_i a1
        exact ⟨by have := m 0; rwa [zero_mul, add_zero] at this, by omega, h2, Or.inr a1⟩

/-- How many tied indices lie from `a` up to before `b`. -/
def cnt {n : ℕ} (E : Finset (Fin n)) (a b : ℕ) : ℕ := (E.filter fun j => a ≤ j.val ∧ j.val < b).card

theorem cnt_split {n : ℕ} (E : Finset (Fin n)) (a b c : ℕ) (hab : a ≤ b) (hbc : b ≤ c) : cnt E a c = cnt E a b + cnt E b c := by
  unfold cnt
  rw [← Finset.card_union_of_disjoint, ← Finset.filter_or]
  · congr 1; apply Finset.filter_congr; intro j _; omega
  · rw [Finset.disjoint_filter]; intro j _ h1 h2; omega

/-- What the tie search knows: what is left to take is positive and lies in the present range. -/
def TInv {n : ℕ} (E : Finset (Fin n)) (r0 : ℤ) (q p : ℕ) (r : ℤ) : Prop :=
  p % q = 0 ∧ p + q ≤ 2 ^ 14 ∧ r + cnt E 0 p = r0 ∧ 1 ≤ r ∧ r ≤ cnt E p (p + q)

/-- A one-bit step of the tie search keeps that, twice finer. -/
theorem tie_inv {n : ℕ} (E : Finset (Fin n)) (r0 : ℤ) (q p : ℕ) (r : ℤ) (h : TInv E r0 (2 * q) p r) :
    (r ≤ cnt E p (p + q) → TInv E r0 q p r) ∧ (¬ r ≤ cnt E p (p + q) → TInv E r0 q (p + q) (r - cnt E p (p + q))) := by
  obtain ⟨h0, h1, h2, h3, h4⟩ := h
  have d : q ∣ p := (Dvd.intro_left 2 rfl).trans (Nat.dvd_of_mod_eq_zero h0)
  have e1 := cnt_split E p (p + q) (p + 2 * q) (by omega) (by omega)
  have e2 := cnt_split E 0 p (p + q) (by omega) (by omega)
  refine ⟨fun hr => ⟨Nat.mod_eq_zero_of_dvd d, by omega, h2, h3, hr⟩, fun hr => ?_⟩
  refine ⟨Nat.mod_eq_zero_of_dvd (d.add dvd_rfl), by omega, by omega, by omega, ?_⟩
  rw [show p + q + q = p + 2 * q by ring]
  omega

/-- At the end the indices up to the found one are as many as asked. -/
theorem tie_done {n : ℕ} (E : Finset (Fin n)) (r0 : ℤ) (p : ℕ) (r : ℤ) (h : TInv E r0 1 p r) :
    ((E.filter fun j => j.val ≤ p).card : ℤ) = r0 := by
  obtain ⟨-, -, h2, h3, h4⟩ := h
  have h1 : cnt E p (p + 1) ≤ 1 := by
    unfold cnt
    refine Finset.card_le_one.2 fun a ha b hb => ?_
    rw [Finset.mem_filter] at ha hb
    exact Fin.ext (by omega)
  have e := cnt_split E 0 p (p + 1) (by omega) (by omega)
  have e' : (E.filter fun j => j.val ≤ p).card = cnt E 0 (p + 1) := by
    unfold cnt; congr 1; apply Finset.filter_congr; intro j _; omega
  rw [e', e]; push_cast; omega

/-- The selection's sum: everything above the threshold with enough of the ties sums as any set of as many largest values. -/
theorem select_sum {ι : Type} [Fintype ι] [DecidableEq ι] (s : ι → ℤ) (f : ι → EReal) (θ : ℤ) (T R : Finset ι)
    (hmono : ∀ a b, s a ≤ s b → f a ≤ f b) (hT : ∀ j ∈ T, s j = θ)
    (hc : (Finset.univ.filter fun j => θ < s j).card + T.card = R.card)
    (hR : ∀ a ∈ R, ∀ b, b ∉ R → f b ≤ f a) :
    ∑ j ∈ Finset.univ.filter (fun j => θ < s j), f j + ∑ j ∈ T, f j = ∑ j ∈ R, f j := by
  have hd : Disjoint (Finset.univ.filter fun j => θ < s j) T := by
    rw [Finset.disjoint_left]; intro j hj hj'
    rw [Finset.mem_filter] at hj
    have := hT j hj'; omega
  rw [← Finset.sum_union hd]
  refine top_sum _ _ f (by rw [Finset.card_union_of_disjoint hd, hc]) (fun a ha b hb => hmono b a ?_) hR
  rw [Finset.mem_union, Finset.mem_filter] at ha hb
  have h1 : s b ≤ θ := by by_contra h; exact hb (Or.inl ⟨Finset.mem_univ _, by omega⟩)
  rcases ha with ha | ha
  · omega
  · have := hT a ha; omega

/-- The values asked for, when no more than there are of them, are all of the kind `p`. -/
theorem top_kind {ι : Type} [Fintype ι] [DecidableEq ι] (f : ι → EReal) (p : ι → Prop) [DecidablePred p] (R : Finset ι)
    (hlt : ∀ a b, ¬ p a → p b → f a < f b) (hc : R.card ≤ (Finset.univ.filter p).card)
    (hR : ∀ a ∈ R, ∀ b, b ∉ R → f b ≤ f a) : ∀ a ∈ R, p a := by
  intro a ha
  by_contra hp
  have hsub : insert a (Finset.univ.filter p) ⊆ R := by
    intro b hb
    rw [Finset.mem_insert, Finset.mem_filter] at hb
    rcases hb with rfl | hb
    · exact ha
    · by_contra hn
      exact absurd (hR a ha b hn) (not_le.2 (hlt a b hp hb.2))
  have := Finset.card_le_card hsub
  rw [Finset.card_insert_of_notMem (by simp [hp])] at this
  omega

/-- A self-map of `Fin n` that is one-to-one and never decreases is the identity. -/
theorem mono_id {n : ℕ} (g : Fin n → Fin n) (hi : Function.Injective g) (hm : ∀ i j, i < j → g i ≤ g j) (j : Fin n) : g j = j := by
  have hs : StrictMono g := fun i j h => lt_of_le_of_ne (hm i j h) fun e => (ne_of_lt h) (hi e)
  have hb : Function.Surjective g := Finite.surjective_of_injective hi
  have e : hs.orderIsoOfSurjective g hb = OrderIso.refl _ := Subsingleton.elim _ _
  exact congrArg (fun o : Fin n ≃o Fin n => o j) e

section rank
variable {n : ℕ} (B1 B2 : Fin n → Fin n → Bool) (f : Fin n → EReal)
  (h1 : ∀ a b, B1 a b = true ↔ f b < f a) (h2 : ∀ a b, B2 a b = true ↔ sortedFrom B1 a < sortedFrom B1 b)

include h2 in
/-- The second sort inverts the first. -/
theorem rank_inv (j : Fin n) : sortedFrom B1 (sortedFrom B2 j) = j := by
  refine mono_id (fun j => sortedFrom B1 (sortedFrom B2 j)) ((sortedFrom_injective B1).comp (sortedFrom_injective B2)) (fun i j h => ?_) j
  have h' := sortedFrom_noInversion B2 B2
    (fun a b h => by
      cases e : B2 b a
      · rfl
      · exact absurd ((h2 _ _).1 e) (lt_asymm ((h2 _ _).1 h)))
    (fun _ _ h => h)
    (fun a b c hab hbc => by
      cases e : B2 a c
      · rfl
      · have x1 : ¬ sortedFrom B1 a < sortedFrom B1 b := fun x => by rw [(h2 _ _).2 x] at hab; cases hab
        have x2 : ¬ sortedFrom B1 b < sortedFrom B1 c := fun x => by rw [(h2 _ _).2 x] at hbc; cases hbc
        have x3 := (h2 _ _).1 e
        exact absurd (lt_of_lt_of_le x3 (not_lt.1 x2)) x1)
    i j h
  exact not_lt.1 fun x => by rw [(h2 _ _).2 x] at h'; cases h'

include h1 h2 in
/-- The anchors ranked before `k` hold the largest values. -/
theorem rank_top (k : ℤ) (a b : Fin n) (ha : ((sortedFrom B2 a).val : ℤ) < k) (hb : ¬ ((sortedFrom B2 b).val : ℤ) < k) : f b ≤ f a := by
  have hlt : sortedFrom B2 a < sortedFrom B2 b := by
    rw [Fin.lt_def]; omega
  have h' := sortedFrom_noInversion B1 B1
    (fun a b h => by
      cases e : B1 b a
      · rfl
      · exact absurd ((h1 _ _).1 e) (lt_asymm ((h1 _ _).1 h)))
    (fun _ _ h => h)
    (fun a b c hab hbc => by
      cases e : B1 a c
      · rfl
      · have x1 : ¬ f b < f a := fun x => by rw [(h1 _ _).2 x] at hab; cases hab
        have x2 : ¬ f c < f b := fun x => by rw [(h1 _ _).2 x] at hbc; cases hbc
        have x3 := (h1 _ _).1 e
        exact absurd (lt_of_lt_of_le x3 (not_lt.1 x1)) x2)
    _ _ hlt
  rw [rank_inv B1 B2 h2, rank_inv B1 B2 h2] at h'
  exact not_lt.1 fun x => by rw [(h1 _ _).2 x] at h'; cases h'

/-- They are `k` many. -/
theorem rank_card (k : ℤ) (hk : k ≤ n) : (((Finset.univ.filter fun j : Fin n => ((sortedFrom B2 j).val : ℤ) < k).card : ℕ) : ℤ) = max k 0 := by
  have hb : Function.Bijective (sortedFrom B2) := ⟨sortedFrom_injective B2, sortedFrom_surjective B2⟩
  have e : (Finset.univ.filter fun j : Fin n => ((sortedFrom B2 j).val : ℤ) < k).card = (Finset.univ.filter fun j : Fin n => (j.val : ℤ) < k).card := by
    refine Finset.card_bij (fun j _ => sortedFrom B2 j) (fun j hj => ?_) (fun a _ b _ h => hb.1 h) (fun b hb' => ?_)
    · rw [Finset.mem_filter] at hj ⊢; exact ⟨Finset.mem_univ _, hj.2⟩
    · obtain ⟨j, rfl⟩ := hb.2 b
      rw [Finset.mem_filter] at hb'
      exact ⟨j, Finset.mem_filter.2 ⟨Finset.mem_univ _, hb'.2⟩, rfl⟩
  rw [e]
  have e2 : (Finset.univ.filter fun j : Fin n => (j.val : ℤ) < k) = Finset.univ.filter fun j : Fin n => j.val < k.toNat := by
    apply Finset.filter_congr; intro j _; omega
  rw [e2, Fin.card_filter_val_lt]
  omega

end rank

end Cert.Hnm

end
-- ==== Proof.HnmWords.lean ====
/- The selection's two searches on 32-bit words, a row at a time, and the order of the nonnegative floats' words. -/
module

public import proofs.«01_k».proof.Proof.HnmSets
public import Idealize.ShloMosaic.PureOps
public import Idealize.ShloMosaic.Lib.Affine
public import Idealize.ShloMosaic.Lib.TotalOrder

@[expose] public section

noncomputable section

namespace Cert.Hnm

open Idealize.ShloMosaic

/-- The sign bit turned over makes an unsigned word the signed one of the same order. -/
theorem flip_toInt (x : BitVec 32) : (x ^^^ 2147483648#32).toInt = (x.toNat : ℤ) - 2 ^ 31 := by
  have hx := x.isLt
  have h1 : (x ^^^ 2147483648#32).toNat % 2 ^ 31 = x.toNat % 2 ^ 31 := by
    rw [BitVec.toNat_xor, Nat.xor_mod_two_pow]; simp
  have h2 : (x ^^^ 2147483648#32).toNat / 2 ^ 31 = x.toNat / 2 ^ 31 ^^^ 1 := by
    rw [BitVec.toNat_xor, Nat.xor_div_two_pow]; simp
  have h3 : x.toNat / 2 ^ 31 = 0 ∨ x.toNat / 2 ^ 31 = 1 := by omega
  rw [BitVec.toInt_eq_toNat_cond]
  rcases h3 with h3 | h3
  · rw [h3] at h2
    have h4 : (x ^^^ 2147483648#32).toNat / 2 ^ 31 = 1 := h2
    split <;> omega
  · rw [h3] at h2
    have h4 : (x ^^^ 2147483648#32).toNat / 2 ^ 31 = 0 := h2
    split <;> omega

/-- A small count as a word reads back signed. -/
theorem toInt_small (c : ℕ) (h : c < 2 ^ 31) : (BitVec.ofNat 32 c).toInt = c := by
  rw [BitVec.toInt_eq_toNat_cond, BitVec.toNat_ofNat, Nat.mod_eq_of_lt (by omega)]
  split <;> omega

/-- A subset of a row has a small count. -/
theorem card_small (S : Finset (Fin 8732)) : S.card ≤ 8732 := by
  have h := Finset.card_le_univ S
  rwa [Fintype.card_fin] at h

/-- A digit put in at zero bits adds. -/
theorem or_digit (a : BitVec 32) (i c : ℕ) (hc : c < 4) (hi : i ≤ 30) (ha : a.toNat % (4 * 2 ^ i) = 0) :
    (a ||| BitVec.ofNat 32 (c * 2 ^ i)).toNat = a.toNat + c * 2 ^ i := by
  have hp : 4 * 2 ^ i = 2 ^ (i + 2) := by rw [pow_add]; ring
  have hlt : c * 2 ^ i < 2 ^ (i + 2) := by
    rw [← hp]; exact Nat.mul_lt_mul_of_pos_right hc (Nat.two_pow_pos i)
  have h32 : (2 : ℕ) ^ (i + 2) ≤ 2 ^ 32 := Nat.pow_le_pow_right (by norm_num) (by omega)
  obtain ⟨m, hm⟩ := Nat.dvd_of_mod_eq_zero ha
  rw [BitVec.toNat_or, BitVec.toNat_ofNat, Nat.mod_eq_of_lt (lt_of_lt_of_le hlt h32), hm, hp,
    Nat.two_pow_add_eq_or_of_lt hlt]

/-- The shift amounts of the threshold search are the digits' places. -/
theorem shl_digit (t : ℕ) (ht : t < 16) (c : ℕ) (hc : c < 4) :
    Scalar.shli (BitVec.ofNat 32 c) (Scalar.subi 30#32 (Scalar.muli 2#32 (Scf.iv 0#32 1#32 t))) = BitVec.ofNat 32 (c * 2 ^ (2 * (15 - t))) := by
  interval_cases t <;> interval_cases c <;> decide

/-- The threshold search's test: at least `k` of the row's keys reach the prefix. -/
def Pass (key : Fin 8732 → BitVec 32) (k : BitVec 32) (T : ℕ) : Prop :=
  k.toInt ≤ ((Finset.univ.filter fun j => (T : ℤ) - 2 ^ 31 ≤ (key j).toInt).card : ℤ)

instance (key : Fin 8732 → BitVec 32) (k : BitVec 32) : DecidablePred (Pass key k) := fun _ => Classical.dec _

/-- A row's count of keys that reach a prefix, as the kernel's word. -/
def cge (key : Fin 8732 → BitVec 32) (c : BitVec 32) : BitVec 32 :=
  BitVec.ofNat 32 (Finset.univ.filter fun j => IntOp.cmpi .sge (key j) (c ^^^ 2147483648#32) = 1#1).card

theorem cge_pass (key : Fin 8732 → BitVec 32) (k c : BitVec 32) : IntOp.cmpi .sge (cge key c) k = 1#1 ↔ Pass key k c.toNat := by
  rw [IntOp.cmpi_sge, cge, toInt_small _ (lt_of_le_of_lt (card_small _) (by norm_num)), Pass]
  have e : (Finset.univ.filter fun j => IntOp.cmpi .sge (key j) (c ^^^ 2147483648#32) = 1#1)
      = Finset.univ.filter fun j => (c.toNat : ℤ) - 2 ^ 31 ≤ (key j).toInt :=
    Finset.filter_congr fun j _ => by rw [IntOp.cmpi_sge, flip_toInt]
  rw [e]

/-- A step of the threshold search on a row's words. -/
def wstep (key : Fin 8732 → BitVec 32) (k : BitVec 32) (w1 w2 w3 a : BitVec 32) : BitVec 32 :=
  Scalar.select (IntOp.cmpi .sge (cge key (a ||| w3)) k) (a ||| w3)
    (Scalar.select (IntOp.cmpi .sge (cge key (a ||| w2)) k) (a ||| w2)
      (Scalar.select (IntOp.cmpi .sge (cge key (a ||| w1)) k) (a ||| w1) a))

theorem wstep_inv (key : Fin 8732 → BitVec 32) (k a : BitVec 32) (i : ℕ) (hi : i ≤ 30)
    (h : Inv (Pass key k) (2 ^ 32) (4 * 2 ^ i) a.toNat) :
    Inv (Pass key k) (2 ^ 32) (2 ^ i)
      (wstep key k (BitVec.ofNat 32 (1 * 2 ^ i)) (BitVec.ofNat 32 (2 * 2 ^ i)) (BitVec.ofNat 32 (3 * 2 ^ i)) a).toNat := by
  have e1 := or_digit a i 1 (by norm_num) hi h.1
  have e2 := or_digit a i 2 (by norm_num) hi h.1
  have e3 := or_digit a i 3 (by norm_num) hi h.1
  have e : (wstep key k (BitVec.ofNat 32 (1 * 2 ^ i)) (BitVec.ofNat 32 (2 * 2 ^ i)) (BitVec.ofNat 32 (3 * 2 ^ i)) a).toNat
      = step (Pass key k) (2 ^ i) a.toNat := by
    unfold wstep step Scalar.select
    rw [show (1 : BitVec 1) = 1#1 from rfl]
    rw [one_mul] at e1 ⊢
    simp only [cge_pass, e1, e2, e3]
    by_cases h3 : Pass key k (a.toNat + 3 * 2 ^ i)
    · rw [if_pos h3, if_pos h3]; exact e3
    · rw [if_neg h3, if_neg h3]
      by_cases h2 : Pass key k (a.toNat + 2 * 2 ^ i)
      · rw [if_pos h2, if_pos h2]; exact e2
      · rw [if_neg h2, if_neg h2]
        by_cases h1 : Pass key k (a.toNat + 2 ^ i)
        · rw [if_pos h1, if_pos h1]; exact e1
        · rw [if_neg h1, if_neg h1]
  rw [e]
  exact step_inv _ _ _ _ h

/-- Indices cut to their high bits: equal to a prefix exactly in the prefix's range. -/
theorem mask_eq (j p : BitVec 32) (b : ℕ) (hb : b < 32) (hp : p.toNat % 2 ^ b = 0) :
    j &&& (4294967295#32 <<< b) = p ↔ p.toNat ≤ j.toNat ∧ j.toNat < p.toNat + 2 ^ b := by
  have e : j &&& (4294967295#32 <<< b) = (j >>> b) <<< b := by
    apply BitVec.eq_of_getLsbD_eq
    intro i hi
    rw [show (4294967295#32 : BitVec 32) = BitVec.allOnes 32 by decide]
    by_cases h : i < b
    · simp [h]
    · have h' : i - b < 32 := by omega
      simp only [BitVec.getLsbD_and, BitVec.getLsbD_shiftLeft, BitVec.getLsbD_allOnes, BitVec.getLsbD_ushiftRight, h, hi, h',
        Nat.add_sub_cancel' (Nat.le_of_not_lt h), decide_true, decide_false, Bool.not_false, Bool.true_and, Bool.and_true]
  have en : ((j >>> b) <<< b).toNat = j.toNat / 2 ^ b * 2 ^ b := by
    have := j.isLt
    have h2 := Nat.div_mul_le_self j.toNat (2 ^ b)
    rw [BitVec.toNat_shiftLeft, BitVec.toNat_ushiftRight, Nat.shiftLeft_eq, Nat.shiftRight_eq_div_pow, Nat.mod_eq_of_lt (by omega)]
  rw [e, BitVec.toNat_eq, en]
  obtain ⟨m, hm⟩ := Nat.dvd_of_mod_eq_zero hp
  rw [hm]
  have hpos := Nat.two_pow_pos b
  constructor
  · intro h
    rw [mul_comm] at h
    have hq := Nat.eq_of_mul_eq_mul_left hpos h
    have h1 := Nat.div_add_mod j.toNat (2 ^ b)
    have h2 := Nat.mod_lt j.toNat hpos
    rw [hq] at h1
    omega
  · rintro ⟨h1, h2⟩
    have : j.toNat / 2 ^ b = m := by
      apply Nat.div_eq_of_lt_le
      · rw [mul_comm]; exact h1
      · rw [Nat.add_mul, one_mul, mul_comm]; exact h2
    rw [this, mul_comm]

/-- The tie search's shifted words. -/
theorem shl_bit (t : ℕ) (ht : t < 14) :
    Scalar.shli 1#32 (Scalar.subi 13#32 (Scf.iv 0#32 1#32 t)) = BitVec.ofNat 32 (1 * 2 ^ (13 - t)) := by
  interval_cases t <;> decide

theorem shl_mask (t : ℕ) (ht : t < 14) :
    Scalar.shli 4294967295#32 (Scalar.subi 13#32 (Scf.iv 0#32 1#32 t)) = 4294967295#32 <<< (13 - t) := by
  interval_cases t <;> decide

/-- A row's ties whose index has the prefix, counted. -/
def tcnt (eqm : Fin 8732 → BitVec 1) (mask x : BitVec 32) : BitVec 32 :=
  BitVec.ofNat 32 (Finset.univ.filter fun j : Fin 8732 => IntOp.andi (eqm j) (IntOp.cmpi .eq (BitVec.ofNat 32 j.val &&& mask) x) = 1#1).card

theorem tcnt_eq (eqm : Fin 8732 → BitVec 1) (b : ℕ) (hb : b < 32) (x : BitVec 32) (hx : x.toNat % 2 ^ b = 0) :
    (tcnt eqm (4294967295#32 <<< b) x).toInt = cnt (Finset.univ.filter fun j => eqm j = 1#1) x.toNat (x.toNat + 2 ^ b) := by
  rw [tcnt, toInt_small _ (lt_of_le_of_lt (card_small _) (by norm_num)), cnt, Finset.filter_filter]
  refine congrArg (fun S : Finset (Fin 8732) => (S.card : ℤ)) (Finset.filter_congr fun j _ => ?_)
  have hj := j.isLt
  rw [IntOp.andi_eq_one, IntOp.cmpi_eq, mask_eq _ _ b hb hx, BitVec.toNat_ofNat, Nat.mod_eq_of_lt (by omega)]

/-- A difference of words in range. -/
theorem sub_toInt (a b : BitVec 32) (h1 : -2 ^ 31 ≤ a.toInt - b.toInt) (h2 : a.toInt - b.toInt < 2 ^ 31) :
    (a - b).toInt = a.toInt - b.toInt := by
  rw [BitVec.toInt_sub]
  exact Int.bmod_eq_of_le (by simpa using h1) (by simpa using h2)

/-- A step of the tie search on a row's words keeps what it knows. -/
theorem tstep_inv (eqm : Fin 8732 → BitVec 1) (r0 : ℤ) (b : ℕ) (hb : b < 14) (x r : BitVec 32)
    (h : TInv (Finset.univ.filter fun j => eqm j = 1#1) r0 (2 * 2 ^ b) x.toNat r.toInt) :
    TInv (Finset.univ.filter fun j => eqm j = 1#1) r0 (2 ^ b)
      (Scalar.select (IntOp.cmpi .sle r (tcnt eqm (4294967295#32 <<< b) x)) x (x ||| BitVec.ofNat 32 (1 * 2 ^ b))).toNat
      (Scalar.select (IntOp.cmpi .sle r (tcnt eqm (4294967295#32 <<< b) x)) r (r - tcnt eqm (4294967295#32 <<< b) x)).toInt := by
  have hx : x.toNat % 2 ^ b = 0 := Nat.mod_eq_zero_of_dvd ((Dvd.intro_left 2 rfl).trans (Nat.dvd_of_mod_eq_zero h.1))
  have ht := tcnt_eq eqm b (by omega) x hx
  obtain ⟨k1, k2⟩ := tie_inv _ r0 (2 ^ b) x.toNat r.toInt h
  have hc : cnt (Finset.univ.filter fun j => eqm j = 1#1) x.toNat (x.toNat + 2 * 2 ^ b) ≤ 8732 := card_small _
  have hr := h.2.2.2.2
  have hr1 := h.2.2.2.1
  unfold Scalar.select
  rw [show (1 : BitVec 1) = 1#1 from rfl]
  simp only [IntOp.cmpi_sle, ht]
  split
  · rename_i hle; exact k1 hle
  · rename_i hle
    have e : (x ||| BitVec.ofNat 32 (1 * 2 ^ b)).toNat = x.toNat + 2 ^ b := by
      have hp : 2 * 2 ^ b = 2 ^ (b + 1) := by rw [pow_succ]; ring
      have hlt : 2 ^ b < 2 ^ (b + 1) := Nat.pow_lt_pow_right (by norm_num) (by omega)
      have h32 : (2 : ℕ) ^ (b + 1) ≤ 2 ^ 32 := Nat.pow_le_pow_right (by norm_num) (by omega)
      obtain ⟨m, hm⟩ := Nat.dvd_of_mod_eq_zero h.1
      rw [one_mul, BitVec.toNat_or, BitVec.toNat_ofNat, Nat.mod_eq_of_lt (lt_of_lt_of_le hlt h32), hm, hp,
        Nat.two_pow_add_eq_or_of_lt hlt]
    rw [e, sub_toInt _ _ (by rw [ht]; omega) (by rw [ht]; omega), ht]
    exact k2 hle

/-- What a nonnegative float's word reads as: at least zero, and more for a greater word. -/
theorem decode_facts (a b : BitVec 32) (ha : a.toNat ≤ 0x7F800000) (hb : b.toNat ≤ 0x7F800000) (h : a.toNat ≤ b.toNat) :
    0 ≤ Ideal.ofBits .f32 a ∧ Ideal.ofBits .f32 a ≤ Ideal.ofBits .f32 b := by
  have key : ∀ c : BitVec 32, c.toNat ≤ 0x7F800000 → ¬ TotalOrder.IsNaN 8 23 c ∧ TotalOrder.sign 8 23 c = false ∧ TotalOrder.mag 8 23 c = c.toNat := by
    intro c hc
    have hm : TotalOrder.mag 8 23 c = c.toNat := by
      unfold TotalOrder.mag; rw [TotalOrder.expo_eq, TotalOrder.frac_eq]; omega
    refine ⟨?_, ?_, hm⟩
    · rintro ⟨h1, h2⟩
      rw [TotalOrder.expo_eq] at h1; rw [TotalOrder.frac_eq] at h2
      omega
    · have := TotalOrder.sign_eq_msb (e := 8) (m := 23) c
      rw [this, BitVec.msb_eq_decide]
      simp only [decide_eq_false_iff_not]; omega
  obtain ⟨na, sa, ma⟩ := key a ha
  obtain ⟨nb, sb, mb⟩ := key b hb
  show 0 ≤ Ideal.ieee 8 23 a ∧ Ideal.ieee 8 23 a ≤ Ideal.ieee 8 23 b
  rw [TotalOrder.ieee_eq_signed_absVal na, TotalOrder.ieee_eq_signed_absVal nb, sa, sb]
  refine ⟨TotalOrder.absVal_nonneg a, ?_⟩
  exact not_lt.1 fun x => by
    have := (TotalOrder.absVal_lt_absVal_iff nb na).1 x
    omega

end Cert.Hnm

end
-- ==== Proof.SelRows.lean ====
/- The second call's vector words, a row at a time: the counts, the threshold found, the ties and the index found. -/
module

public import proofs.«01_k».proof.Proof.SelIdealRun
public import proofs.«01_k».proof.Proof.HnmWords
public import Idealize.ShloMosaic.Lib.IndicatorCount
public import Idealize.ShloMosaic.Lib.Pointwise
public import Idealize.ShloMosaic.Lib.Pipeline.ValueKit

@[expose] public section

set_option maxRecDepth 16384

noncomputable section

namespace Cert.SelectIdeal.Value

open Cert.SelectIdeal Cert.SelectIdeal.Gen Idealize.ShloMosaic Idealize.ShloMosaic.TcCoe
open Cert.Hnm

/-- A fold over the trips keeps what its steps keep. -/
theorem fold_keeps {σ : Type} {n : ℕ} (N : ℕ) (hN : n = N) (g : Fin n → σ → σ) (init : σ) (I : ℕ → σ → Prop) (h0 : I 0 init)
    (hs : ∀ (k : Fin n) a, I k.val a → I (k.val + 1) (g k a)) : I N (Scf.fold g init) := by
  subst hN
  rw [Scf.fold_eq]
  induction n with
  | zero => exact h0
  | succ n ih =>
    rw [List.finRange_succ_last, List.foldl_append, List.foldl_map]
    exact hs (Fin.last n) _ (ih (fun k a => g k.castSucc a) fun k a h => hs k.castSucc a h)

/-- A row's count of ones as the kernel takes it. -/
theorem rowCount (p : IVec S32x8732 1) (r : Fin 32) :
    shapeCast S32x1 (multiReductionI .add [1] S32 (extui 32 p natLt_1_32) 0#32 reduces_S32x8732_S32 rfl) shapeCasts_S32_S32x1 (ix2 r 0)
      = BitVec.ofNat 32 (Finset.univ.filter fun j : Fin 8732 => p (ix2 r j) = 1#1).card := by
  refine Eq.trans ?_ (IndicatorCount.fold_addi_setWidth_eq_card (w := 32) (fun j : Fin 8732 => p (ix2 r j)) Finset.univ)
  pointwise

variable (x0 : Vec Ideal S32x1x8732 .i32) (x1 : Vec Ideal S32x1x1 .i32)

/-- A row's keys, and the number of negatives it is asked for. -/
def keyRow (r : Fin 32) : Fin 8732 → BitVec 32 := fun j => x0 (ix3 r 0 j)
def kRow (r : Fin 32) : BitVec 32 := IntOp.muli 3#32 (x1 (ix3 r 0 0))

theorem pay13_at (r : Fin 32) (j : Fin 8732) : k0_pay13 (F := Ideal) x0 (ix2 r j) = keyRow x0 r j := by
  pointwise [k0_pay13]
  rfl

theorem pay18_at (r : Fin 32) : k0_pay18 (F := Ideal) x1 (ix2 r 0) = kRow x1 r := by
  pointwise [k0_pay18, k0_pay15]
  rfl

/-- A row's test of a prefix. -/
theorem cge_at (c : IVec S32x1 32) (r : Fin 32) :
    shapeCast S32x1 (multiReductionI .add [1] S32 (extui 32 (cmpi .sge (k0_pay13 (F := Ideal) x0) (broadcastTo S32x8732 (xori c (broadcast S32x1 2147483648#32)) broadcasts_S32x1_S32x8732)) natLt_1_32) 0#32 reduces_S32x8732_S32 rfl) shapeCasts_S32_S32x1 (ix2 r 0)
      = cge (keyRow x0 r) (c (ix2 r 0)) := by
  rw [rowCount]
  unfold cge
  refine congrArg (fun S : Finset (Fin 8732) => BitVec.ofNat 32 S.card) (Finset.filter_congr fun j _ => ?_)
  have e : broadcastTo S32x8732 (xori c (broadcast S32x1 2147483648#32)) broadcasts_S32x1_S32x8732 (ix2 r j) = c (ix2 r 0) ^^^ 2147483648#32 := by
    pointwise
    rfl
  show IntOp.cmpi .sge (k0_pay13 (F := Ideal) x0 (ix2 r j)) _ = 1#1 ↔ _
  rw [e, pay13_at]

/-- A trip of the threshold search on a row. -/
theorem pay21_at (t : Fin k0_t1_loop.trips) (a : IVec S32x1 32) (r : Fin 32) :
    k0_pay21 (F := Ideal) x0 x1 t a (ix2 r 0)
      = wstep (keyRow x0 r) (kRow x1 r)
          (Scalar.shli 1#32 (Scalar.subi 30#32 (Scalar.muli 2#32 (Scf.iv 0#32 1#32 t))))
          (Scalar.shli 2#32 (Scalar.subi 30#32 (Scalar.muli 2#32 (Scf.iv 0#32 1#32 t))))
          (Scalar.shli 3#32 (Scalar.subi 30#32 (Scalar.muli 2#32 (Scf.iv 0#32 1#32 t)))) (a (ix2 r 0)) := by
  unfold wstep k0_pay21
  rw [← pay18_at]
  have e1 := cge_at x0 (ori a (broadcast S32x1 (Scalar.shli 1#32 (Scalar.subi 30#32 (Scalar.muli 2#32 (Scf.iv 0#32 1#32 t)))))) r
  have e2 := cge_at x0 (ori a (broadcast S32x1 (Scalar.shli 2#32 (Scalar.subi 30#32 (Scalar.muli 2#32 (Scf.iv 0#32 1#32 t)))))) r
  have e3 := cge_at x0 (ori a (broadcast S32x1 (Scalar.shli 3#32 (Scalar.subi 30#32 (Scalar.muli 2#32 (Scf.iv 0#32 1#32 t)))))) r
  refine Eq.trans (b := Scalar.select (IntOp.cmpi .sge _ _) _ (Scalar.select (IntOp.cmpi .sge _ _) _ (Scalar.select (IntOp.cmpi .sge _ _) _ _))) rfl ?_
  rw [e1, e2, e3]
  rfl

theorem trips1 : k0_t1_loop.trips = 16 := by decide
theorem trips2 : k0_t2_loop.trips = 14 := by decide

/-- The threshold found for a row: its prefix passes, the next one does not. -/
theorem search_inv (r : Fin 32) : Inv (Pass (keyRow x0 r) (kRow x1 r)) (2 ^ 32) 1 (search x0 x1 (ix2 r 0)).toNat := by
  have h := fold_keeps 16 trips1 (fun t a => k0_pay21 (F := Ideal) x0 x1 t a) (k0_pay20)
    (fun t a => Inv (Pass (keyRow x0 r) (kRow x1 r)) (2 ^ 32) (4 ^ (16 - t)) (a (ix2 r 0)).toNat)
    (by rw [show (k0_pay20 (ix2 r 0)).toNat = 0 from rfl]; exact ⟨by norm_num, by norm_num, Or.inl rfl, Or.inl (by norm_num)⟩)
    (fun t a h => by
      have ht : t.val < 16 := lt_of_lt_of_eq t.isLt trips1
      rw [pay21_at, shl_digit t.val ht 1 (by norm_num), shl_digit t.val ht 2 (by norm_num), shl_digit t.val ht 3 (by norm_num)]
      have e : (4 : ℕ) ^ (16 - (t.val + 1)) = 2 ^ (2 * (15 - t.val)) := by
        rw [show 16 - (t.val + 1) = 15 - t.val by omega, pow_mul]; norm_num
      have e' : (4 : ℕ) ^ (16 - t.val) = 4 * 2 ^ (2 * (15 - t.val)) := by
        rw [show 16 - t.val = (15 - t.val) + 1 by omega, pow_succ, pow_mul]; norm_num; ring
      rw [e]
      rw [e'] at h
      exact wstep_inv _ _ _ _ (by omega) h)
  exact h

/-- A row's threshold, read signed; the flags of the keys above it and at it; what is left to take. -/
def thr (r : Fin 32) : ℤ := ((search x0 x1 (ix2 r 0)).toNat : ℤ) - 2 ^ 31

theorem pay22_at (r : Fin 32) (j : Fin 8732) : (broadcastTo S32x8732 (k0_pay22 (search x0 x1)) broadcasts_S32x1_S32x8732 (ix2 r j)).toInt = thr x0 x1 r := by
  have e : broadcastTo S32x8732 (k0_pay22 (search x0 x1)) broadcasts_S32x1_S32x8732 (ix2 r j) = search x0 x1 (ix2 r 0) ^^^ 2147483648#32 := by
    pointwise [k0_pay22]
    rfl
  rw [e, flip_toInt]
  rfl

theorem pay23_at (r : Fin 32) (j : Fin 8732) : k0_pay23 (F := Ideal) x0 (search x0 x1) (ix2 r j) = 1#1 ↔ thr x0 x1 r < (keyRow x0 r j).toInt := by
  unfold k0_pay23
  show IntOp.cmpi .sgt (k0_pay13 (F := Ideal) x0 (ix2 r j)) _ = 1#1 ↔ _
  rw [IntOp.cmpi_sgt, pay22_at, pay13_at]

theorem pay25_at (r : Fin 32) (j : Fin 8732) : k0_pay25 (F := Ideal) x0 (search x0 x1) (ix2 r j) = 1#1 ↔ (keyRow x0 r j).toInt = thr x0 x1 r := by
  unfold k0_pay25
  show IntOp.cmpi .eq (k0_pay13 (F := Ideal) x0 (ix2 r j)) _ = 1#1 ↔ _
  rw [IntOp.cmpi_eq, ← pay22_at x0 x1 r j, pay13_at]
  exact ⟨fun h => congrArg _ h, fun h => BitVec.eq_of_toInt_eq h⟩

/-- The keys above the threshold, and at it. -/
def above (r : Fin 32) : Finset (Fin 8732) := Finset.univ.filter fun j => thr x0 x1 r < (keyRow x0 r j).toInt
def ties (r : Fin 32) : Finset (Fin 8732) := Finset.univ.filter fun j => (keyRow x0 r j).toInt = thr x0 x1 r

theorem pay24_at (r : Fin 32) : k0_pay24 (F := Ideal) x0 x1 (search x0 x1) (ix2 r 0) = kRow x1 r - BitVec.ofNat 32 (above x0 x1 r).card := by
  have e := rowCount (k0_pay23 (F := Ideal) x0 (search x0 x1)) r
  unfold k0_pay24
  refine Eq.trans (b := IntOp.subi (k0_pay18 (F := Ideal) x1 (ix2 r 0)) _) rfl ?_
  rw [e, pay18_at]
  refine congrArg (fun S : Finset (Fin 8732) => kRow x1 r - BitVec.ofNat 32 S.card) (Finset.filter_congr fun j _ => pay23_at x0 x1 r j)

/-- A row's number of ties, as the kernel's word. -/
theorem ecnt_at (r : Fin 32) : shapeCast S32x1 (multiReductionI .add [1] S32 (k0_pay26 (F := Ideal) x0 (search x0 x1)) 0#32 reduces_S32x8732_S32 rfl) shapeCasts_S32_S32x1 (ix2 r 0)
    = BitVec.ofNat 32 (ties x0 x1 r).card := by
  unfold k0_pay26
  refine (rowCount (k0_pay25 (F := Ideal) x0 (search x0 x1)) r).trans ?_
  exact congrArg (fun S : Finset (Fin 8732) => BitVec.ofNat 32 S.card) (Finset.filter_congr fun j _ => pay25_at x0 x1 r j)

end Cert.SelectIdeal.Value

end
-- ==== Proof.SelTies.lean ====
/- The second call's ties and its sums over the rows. -/
module

public import proofs.«01_k».proof.Proof.SelRows

@[expose] public section

set_option maxRecDepth 16384

noncomputable section

namespace Cert.SelectIdeal.Value

open Cert.SelectIdeal Cert.SelectIdeal.Gen Idealize.ShloMosaic Idealize.ShloMosaic.TcCoe
open Cert.Hnm

/-- A trip's count of a row's ties with the prefix. -/
theorem pay2_at (v34 : IVec S32x8732 1) (t : Fin k0_t2_loop.trips) (a : IVec S32x1 32) (r : Fin 32) :
    k0_pay2 v34 t a (ix2 r 0)
      = tcnt (fun j => v34 (ix2 r j)) (Scalar.shli 4294967295#32 (Scalar.subi 13#32 (Scf.iv 0#32 1#32 t))) (a (ix2 r 0)) := by
  unfold k0_pay2
  refine (rowCount _ r).trans ?_
  unfold tcnt
  refine congrArg (fun S : Finset (Fin 8732) => BitVec.ofNat 32 S.card) (Finset.filter_congr fun j _ => ?_)
  generalize Scalar.shli 4294967295#32 (Scalar.subi 13#32 (Scf.iv 0#32 1#32 t)) = w
  have e : broadcastTo S32x8732 a broadcasts_S32x1_S32x8732 (ix2 r j) = a (ix2 r 0) := by
    pointwise
  have e' : iota .tc S32x8732 32 [1] iota_S32x8732_d1_w32 (ix2 r j) = BitVec.ofNat 32 j.val := by
    pointwise
  show IntOp.andi (v34 (ix2 r j)) (IntOp.cmpi .eq (IntOp.andi (iota .tc S32x8732 32 [1] iota_S32x8732_d1_w32 (ix2 r j)) w) (broadcastTo S32x8732 a broadcasts_S32x1_S32x8732 (ix2 r j))) = 1#1 ↔ _
  rw [e, e']
  rfl

theorem pay4_at (v34 : IVec S32x8732 1) (t : Fin k0_t2_loop.trips) (a b : IVec S32x1 32) (r : Fin 32) :
    k0_pay4 v34 t a b (ix2 r 0) = Scalar.select (IntOp.cmpi .sle (b (ix2 r 0)) (k0_pay2 v34 t a (ix2 r 0))) (a (ix2 r 0))
      (a (ix2 r 0) ||| Scalar.shli 1#32 (Scalar.subi 13#32 (Scf.iv 0#32 1#32 t))) := rfl

theorem pay5_at (v34 : IVec S32x8732 1) (t : Fin k0_t2_loop.trips) (a b : IVec S32x1 32) (r : Fin 32) :
    k0_pay5 v34 t a b (ix2 r 0) = Scalar.select (IntOp.cmpi .sle (b (ix2 r 0)) (k0_pay2 v34 t a (ix2 r 0))) (b (ix2 r 0))
      (b (ix2 r 0) - k0_pay2 v34 t a (ix2 r 0)) := rfl

/-- A trip of the tie search keeps what it knows of a row. -/
theorem tie_trip (v34 : IVec S32x8732 1) (t : Fin k0_t2_loop.trips) (a b : IVec S32x1 32) (r : Fin 32) (r0 : ℤ)
    (h : TInv (Finset.univ.filter fun j => v34 (ix2 r j) = 1#1) r0 (2 ^ (14 - t.val)) (a (ix2 r 0)).toNat (b (ix2 r 0)).toInt) :
    TInv (Finset.univ.filter fun j => v34 (ix2 r j) = 1#1) r0 (2 ^ (14 - (t.val + 1))) (k0_pay4 v34 t a b (ix2 r 0)).toNat (k0_pay5 v34 t a b (ix2 r 0)).toInt := by
  have ht : t.val < 14 := lt_of_lt_of_eq t.isLt trips2
  have hp : (2 : ℕ) ^ (14 - t.val) = 2 * 2 ^ (13 - t.val) := by
    rw [show 14 - t.val = (13 - t.val) + 1 by omega, pow_succ]; ring
  rw [hp] at h
  rw [pay4_at, pay5_at, pay2_at, shl_mask t.val ht, shl_bit t.val ht, show 14 - (t.val + 1) = 13 - t.val by omega]
  exact tstep_inv (fun j => v34 (ix2 r j)) r0 (13 - t.val) (by omega) (a (ix2 r 0)) (b (ix2 r 0)) h

variable (x0 : Vec Ideal S32x1x8732 .i32) (x1 : Vec Ideal S32x1x1 .i32)

/-- What a row has left to take from its ties. -/
def left (r : Fin 32) : BitVec 32 := kRow x1 r - BitVec.ofNat 32 (above x0 x1 r).card

theorem cnt_all (E : Finset (Fin 8732)) : cnt E 0 (0 + 2 ^ 14) = E.card := by
  unfold cnt
  refine congrArg Finset.card (Finset.filter_true_of_mem fun j _ => ?_)
  have := j.isLt
  omega

/-- What the tie search knows of a row after `t` trips. -/
def tieKnown (r : Fin 32) (t : ℕ) (a : IVec S32x1 32 × IVec S32x1 32) : Prop :=
  TInv (Finset.univ.filter fun j => k0_pay25 (F := Ideal) x0 (search x0 x1) (ix2 r j) = 1#1) (left x0 x1 r).toInt
    (2 ^ (14 - t)) (a.1 (ix2 r 0)).toNat (a.2 (ix2 r 0)).toInt

theorem tieKnown_step (r : Fin 32) (t : Fin k0_t2_loop.trips) (a : IVec S32x1 32 × IVec S32x1 32) (h : tieKnown x0 x1 r t.val a) :
    tieKnown x0 x1 r (t.val + 1) (k0_pay4 (k0_pay25 (F := Ideal) x0 (search x0 x1)) t a.1 a.2, k0_pay5 (k0_pay25 (F := Ideal) x0 (search x0 x1)) t a.1 a.2) := by
  obtain ⟨a1, a2⟩ := a
  unfold tieKnown at h ⊢
  dsimp only at h ⊢
  exact tie_trip (k0_pay25 (F := Ideal) x0 (search x0 x1)) t a1 a2 r _ h

/-- The flags' ones are the ties. -/
theorem ties_eq (r : Fin 32) : (Finset.univ.filter fun j => k0_pay25 (F := Ideal) x0 (search x0 x1) (ix2 r j) = 1#1) = ties x0 x1 r :=
  Finset.filter_congr fun j _ => pay25_at x0 x1 r j

theorem tieKnown_zero (r : Fin 32) (h1 : 1 ≤ (left x0 x1 r).toInt) (h2 : (left x0 x1 r).toInt ≤ (ties x0 x1 r).card) :
    tieKnown x0 x1 r 0 (k0_pay20, k0_pay24 (F := Ideal) x0 x1 (search x0 x1)) := by
  unfold tieKnown
  dsimp only
  rw [ties_eq, pay24_at, show (k0_pay20 (ix2 r 0)).toNat = 0 from rfl]
  have e0 : cnt (ties x0 x1 r) 0 0 = 0 := by
    unfold cnt; rw [Finset.card_eq_zero]; exact Finset.filter_false_of_mem fun j _ h => by omega
  exact ⟨by norm_num, by norm_num, by rw [e0]; exact add_zero _, h1, by rw [Nat.sub_zero, cnt_all]; exact h2⟩

/-- The tie search finds the index up to which a row's ties are as many as it takes. -/
theorem tieSearch_card (r : Fin 32) (h1 : 1 ≤ (left x0 x1 r).toInt) (h2 : (left x0 x1 r).toInt ≤ (ties x0 x1 r).card) :
    ((ties x0 x1 r).filter fun j => j.val ≤ ((tieSearch x0 x1).1 (ix2 r 0)).toNat).card = (left x0 x1 r).toInt
      ∧ ((tieSearch x0 x1).1 (ix2 r 0)).toNat < 2 ^ 14 := by
  have h : tieKnown x0 x1 r 14 (tieSearch x0 x1) := fold_keeps 14 trips2 _ _ (tieKnown x0 x1 r) (tieKnown_zero x0 x1 r h1 h2) (tieKnown_step x0 x1 r)
  unfold tieKnown at h
  rw [ties_eq] at h
  exact ⟨tie_done _ _ _ _ h, Nat.lt_of_succ_le h.2.1⟩

/-- The greatest of a column of flags is at least each. -/
theorem max_ge (v : FVec Ideal S1x32x1 .f32) (i : S1x32x1.Idx) :
    v i ≤ extractAt ![0, 0, 0] (shapeCast S1x1x1 (multiReduction .maximumf [1, 2] S1 v 0xFF800000#32 reduces_S1x32x1_S1 (.inl rfl) rfl) shapeCasts_S1_S1x1x1) inpos_S1x1x1_p0_0_0 := by
  have hs : Subsingleton S1.Idx := ⟨fun a b => by
    funext k
    match k with
    | ⟨0, h⟩ => exact Fin.ext (by have h1 : (a ⟨0, h⟩).val < 1 := (a ⟨0, h⟩).isLt; have h2 : (b ⟨0, h⟩).val < 1 := (b ⟨0, h⟩).isLt; omega)⟩
  unfold extractAt shapeCast
  refine le_trans ?_ (le_of_eq (multiReduction_maximumf_eq_fold (F := Ideal) v _ _ _ _ _).symm)
  exact (Finset.le_fold_max (β := EReal) _).2 (Or.inr ⟨i, Finset.mem_filter.2 ⟨Finset.mem_univ _, Subsingleton.elim _ _⟩, le_rfl⟩)

end Cert.SelectIdeal.Value

end
-- ==== Proof.SelIdealValue.lean ====
/- The second call's run read: the three results as terms of the four arguments. -/
module

public import proofs.«01_k».proof.Proof.SelIdealRun

@[expose] public section

noncomputable section

namespace Cert.SelectIdeal.Value

open Cert.SelectIdeal Cert.SelectIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Every window's one block is its whole array. -/
theorem iblk_0 (c : Dev nD) (t : Fin cfg0.N) : iblk m c 0 t = m ((c : Thread nD τ).loc main_arg0) := by
  obtain rfl := fin_N0 t
  exact Memref.read_access_unit_zero (Elt F) main_arg0 (funext fun a => by fin_cases a <;> rfl) (fun a => by fin_cases a <;> decide) _
theorem iblk_1 (c : Dev nD) (t : Fin cfg0.N) : iblk m c 1 t = m ((c : Thread nD τ).loc main_arg1) := by
  obtain rfl := fin_N0 t
  exact Memref.read_access_unit_zero (Elt F) main_arg1 (funext fun a => by fin_cases a <;> rfl) (fun a => by fin_cases a <;> decide) _
theorem iblk_2 (c : Dev nD) (t : Fin cfg0.N) : iblk m c 2 t = m ((c : Thread nD τ).loc main_arg2) := by
  obtain rfl := fin_N0 t
  exact Memref.read_access_unit_zero (Elt F) main_arg2 (funext fun a => by fin_cases a <;> rfl) (fun a => by fin_cases a <;> decide) _
theorem iblk_3 (c : Dev nD) (t : Fin cfg0.N) : iblk m c 3 t = m ((c : Thread nD τ).loc main_arg3) := by
  obtain rfl := fin_N0 t
  exact Memref.read_access_unit_zero (Elt F) main_arg3 (funext fun a => by fin_cases a <;> rfl) (fun a => by fin_cases a <;> decide) _

/-- The three results' final arrays: the one write-back writes the whole array. -/
theorem final_4 (c : Dev nD) : (dats m 0 c).arrAt 4 cfg0.N
    = outTotal (m ((c : Thread nD τ).loc main_arg0)) (m ((c : Thread nD τ).loc main_arg1)) (m ((c : Thread nD τ).loc main_arg2)) (m ((c : Thread nD τ).loc main_arg3)) := by
  refine (dats m 0 c).arrAt_eq_of_cover 4 _ (fun t _ => ?_) fun i => ⟨t0_0, flush0_4 t0_0, ?_⟩
  · obtain rfl := fin_N0 t
    show (cfg0.win 4).cut (grid0.coords t0_0) ((dats m 0 c).after 4 t0_0) = _
    rw [after0_4, iblk_0, iblk_1, iblk_2, iblk_3]
    exact (Memref.read_access_unit_zero (Elt F) main_v0_0 (funext fun a => by fin_cases a <;> rfl) (fun a => by fin_cases a <;> decide) _).symm
  · show i ∈ ((View.whole main_v0_0).slice (win0_4.rect t0_0)).set
    rw [View.set_slice_whole, Rect.mem_set_unit]
    intro a
    have h0 : (i 0 : Nat) < 1 := (i 0).isLt
    have h1 : (i 1 : Nat) < 1 := (i 1).isLt
    match a with
    | ⟨0, _⟩ => exact ⟨Nat.zero_le _, h0⟩
    | ⟨1, _⟩ => exact ⟨Nat.zero_le _, h1⟩
theorem final_5 (c : Dev nD) : (dats m 0 c).arrAt 5 cfg0.N
    = outReg (m ((c : Thread nD τ).loc main_arg1)) (m ((c : Thread nD τ).loc main_arg2)) := by
  refine (dats m 0 c).arrAt_eq_of_cover 5 _ (fun t _ => ?_) fun i => ⟨t0_0, flush0_5 t0_0, ?_⟩
  · obtain rfl := fin_N0 t
    show (cfg0.win 5).cut (grid0.coords t0_0) ((dats m 0 c).after 5 t0_0) = _
    rw [after0_5, iblk_1, iblk_2]
    exact (Memref.read_access_unit_zero (Elt F) main_v0_1 (funext fun a => by fin_cases a <;> rfl) (fun a => by fin_cases a <;> decide) _).symm
  · show i ∈ ((View.whole main_v0_1).slice (win0_5.rect t0_0)).set
    rw [View.set_slice_whole, Rect.mem_set_unit]
    intro a
    have h0 : (i 0 : Nat) < 1 := (i 0).isLt
    have h1 : (i 1 : Nat) < 1 := (i 1).isLt
    match a with
    | ⟨0, _⟩ => exact ⟨Nat.zero_le _, h0⟩
    | ⟨1, _⟩ => exact ⟨Nat.zero_le _, h1⟩
theorem final_6 (c : Dev nD) : (dats m 0 c).arrAt 6 cfg0.N
    = outCls (m ((c : Thread nD τ).loc main_arg0)) (m ((c : Thread nD τ).loc main_arg1)) (m ((c : Thread nD τ).loc main_arg3)) := by
  refine (dats m 0 c).arrAt_eq_of_cover 6 _ (fun t _ => ?_) fun i => ⟨t0_0, flush0_6 t0_0, ?_⟩
  · obtain rfl := fin_N0 t
    show (cfg0.win 6).cut (grid0.coords t0_0) ((dats m 0 c).after 6 t0_0) = _
    rw [after0_6, iblk_0, iblk_1, iblk_3]
    exact (Memref.read_access_unit_zero (Elt F) main_v0_2 (funext fun a => by fin_cases a <;> rfl) (fun a => by fin_cases a <;> decide) _).symm
  · show i ∈ ((View.whole main_v0_2).slice (win0_6.rect t0_0)).set
    rw [View.set_slice_whole, Rect.mem_set_unit]
    intro a
    have h0 : (i 0 : Nat) < 1 := (i 0).isLt
    have h1 : (i 1 : Nat) < 1 := (i 1).isLt
    match a with
    | ⟨0, _⟩ => exact ⟨Nat.zero_le _, h0⟩
    | ⟨1, _⟩ => exact ⟨Nat.zero_le _, h1⟩

/-- The run with the three results named and the arguments unchanged. -/
theorem run : θ_run defs (onTc (τ := τ) (main (F := F))) ⟨m, fun _ => 0, ρ⟩ fun r => ∀ c : Dev nD,
      r.2.mem ((c : Thread nD τ).loc main_v0_0) = outTotal (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = outReg (m ((c : Thread nD τ).loc main_arg1)) (m ((c : Thread nD τ).loc main_arg2))
      ∧ r.2.mem ((c : Thread nD τ).loc main_v0_2) = outCls (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final_4 m c), ((h c).1 5).trans (final_5 m c), ((h c).1 6).trans (final_6 m c),
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2)),
      ((h c).1 3).trans (((dats m 0 c).arrAt_in 3 rfl _).trans (A_eq m c 3))⟩)
    (run_main m ρ)

end Cert.SelectIdeal.Value

end
-- ==== Proof.SelValue.lean ====
/- The second call's classification sum over the extended reals: per row, a set of as many largest scores as asked. -/
module

public import proofs.«01_k».proof.Proof.SelTies
public import proofs.«01_k».proof.Proof.SelIdealValue
public import proofs.«01_k».proof.Proof.ScoresAlgebra
public import Idealize.ShloMosaic.Lib.ValueLayout

@[expose] public section

set_option maxRecDepth 16384

noncomputable section

namespace Cert.SelectIdeal.Value

open Cert.SelectIdeal Cert.SelectIdeal.Gen Idealize.ShloMosaic Idealize.ShloMosaic.TcCoe
open Cert.Hnm

variable (x0 : Vec Ideal S32x1x8732 .i32) (x1 : Vec Ideal S32x1x1 .i32)

/-- A row's number of keys that are scores. -/
def avail (r : Fin 32) : ℕ := (Finset.univ.filter fun j => 0 ≤ (keyRow x0 r j).toInt).card

/-- What the searches leave in a row that has the negatives asked for: the threshold is a score, the keys above it are
    fewer than asked, with the ties they suffice. -/
theorem row_facts (r : Fin 32) (hk : (kRow x1 r).toInt ≤ avail x0 r) :
    0 ≤ thr x0 x1 r ∧ ((above x0 x1 r).card : ℤ) + max (left x0 x1 r).toInt 0 = max (kRow x1 r).toInt 0
      ∧ (left x0 x1 r).toInt ≤ (ties x0 x1 r).card := by
  obtain ⟨-, h1, h2, h3⟩ := search_inv x0 x1 r
  have hca : (above x0 x1 r).card ≤ 8732 := card_small _
  have hthr : thr x0 x1 r = ((search x0 x1 (ix2 r 0)).toNat : ℤ) - 2 ^ 31 := rfl
  generalize hp : (search x0 x1 (ix2 r 0)).toNat = p at h1 h2 h3 hthr
  -- the threshold is a score
  have h0 : 2 ^ 31 ≤ p := by
    by_contra hlt
    rcases h3 with h3 | h3
    · omega
    · refine h3 (le_trans hk ?_)
      unfold avail
      refine Int.ofNat_le.2 (Finset.card_le_card fun j hj => ?_)
      rw [Finset.mem_filter] at hj ⊢
      exact ⟨Finset.mem_univ _, by push_cast; omega⟩
  -- enough keys reach it
  have hpass : (kRow x1 r).toInt ≤ (above x0 x1 r).card + (ties x0 x1 r).card := by
    have h2' : Pass (keyRow x0 r) (kRow x1 r) p := h2.resolve_left (by omega)
    unfold Pass at h2'
    have e : (Finset.univ.filter fun j => (p : ℤ) - 2 ^ 31 ≤ (keyRow x0 r j).toInt) = above x0 x1 r ∪ ties x0 x1 r := by
      ext j
      rw [above, ties, Finset.mem_union, Finset.mem_filter, Finset.mem_filter, Finset.mem_filter, hthr]
      constructor
      · rintro ⟨hu, h⟩
        by_cases he : (keyRow x0 r j).toInt = (p : ℤ) - 2 ^ 31
        · exact Or.inr ⟨hu, he⟩
        · exact Or.inl ⟨hu, by omega⟩
      · rintro (⟨hu, h⟩ | ⟨hu, h⟩)
        · exact ⟨hu, by omega⟩
        · exact ⟨hu, by omega⟩
    rw [e, Finset.card_union_of_disjoint] at h2'
    · push_cast at h2'; exact h2'
    · rw [Finset.disjoint_left]; intro j hj hj'
      rw [above, Finset.mem_filter] at hj
      rw [ties, Finset.mem_filter] at hj'
      have := hj.2; have := hj'.2; omega
  -- too few lie above it
  have habove : ((above x0 x1 r).card = 0) ∨ ((above x0 x1 r).card : ℤ) < (kRow x1 r).toInt := by
    rcases h3 with h3 | h3
    · left
      rw [above, Finset.card_eq_zero]
      refine Finset.filter_false_of_mem fun j _ h => ?_
      have := BitVec.toInt_lt (x := keyRow x0 r j)
      rw [hthr] at h
      norm_num at this
      omega
    · right
      unfold Pass at h3
      have e : (Finset.univ.filter fun j => ((p + 1 : ℕ) : ℤ) - 2 ^ 31 ≤ (keyRow x0 r j).toInt) = above x0 x1 r := by
        rw [above]
        refine Finset.filter_congr fun j _ => ?_
        rw [hthr]; push_cast; omega
      rw [e] at h3
      omega
  have hsmall : 0 < (kRow x1 r).toInt → ((above x0 x1 r).card : ℤ) < (kRow x1 r).toInt := by
    intro hpos
    rcases habove with h | h
    · rw [h]; exact_mod_cast hpos
    · exact h
  have hnone : (kRow x1 r).toInt ≤ 0 → (above x0 x1 r).card = 0 := by
    intro hle
    rcases habove with h | h
    · exact h
    · omega
  have hc := toInt_small (above x0 x1 r).card (by omega)
  have hleft : (left x0 x1 r).toInt = (kRow x1 r).toInt - (above x0 x1 r).card := by
    have b1 := BitVec.le_toInt (x := kRow x1 r)
    have b2 := BitVec.toInt_lt (x := kRow x1 r)
    norm_num at b1 b2
    unfold left
    rcases lt_or_ge 0 (kRow x1 r).toInt with hpos | hle
    · have := hsmall hpos
      rw [sub_toInt _ _ (by rw [hc]; omega) (by rw [hc]; omega), hc]
    · have := hnone hle
      rw [sub_toInt _ _ (by rw [hc]; omega) (by rw [hc]; omega), hc]
  refine ⟨by rw [hthr]; omega, ?_, by rw [hleft]; omega⟩
  rw [hleft]
  rcases lt_or_ge 0 (kRow x1 r).toInt with hpos | hle
  · have := hsmall hpos
    rw [max_eq_left (by omega), max_eq_left (by omega)]; omega
  · have := hnone hle
    rw [max_eq_right (by omega), max_eq_right (by omega), this]; rfl

/-- The ties a row takes. -/
def taken (r : Fin 32) : Finset (Fin 8732) :=
  if needSlow x0 x1 = 1#1 then (ties x0 x1 r).filter fun j => j.val ≤ ((tieSearch x0 x1).1 (ix2 r 0)).toNat ∧ 0 < (left x0 x1 r).toInt
  else (ties x0 x1 r).filter fun _ => 0 < (left x0 x1 r).toInt

/-- The greatest flag is at least a row's. -/
theorem pay1_ge (A B : IVec S32x1 32) (v35 : IVec S32x8732 32) (r : Fin 32) (h : shapeCast S32x1 (multiReductionI .add [1] S32 v35 0#32 reduces_S32x8732_S32 rfl) shapeCasts_S32_S32x1 = A) :
    Scalar.select (IntOp.andi (IntOp.cmpi .sgt (A (ix2 r 0)) (B (ix2 r 0))) (IntOp.cmpi .sgt (B (ix2 r 0)) 0#32)) (Ideal.ofBits .f32 0x3F800000#32) (Ideal.ofBits .f32 0x00000000#32)
      ≤ k0_pay1 (F := Ideal) B v35 := by
  subst h
  unfold k0_pay1
  refine le_trans (le_of_eq ?_) (max_ge (shapeCast S1x32x1 (select (andi (cmpi .sgt (shapeCast S32x1 (multiReductionI .add [1] S32 v35 0#32 reduces_S32x8732_S32 rfl) shapeCasts_S32_S32x1) B) (cmpi .sgt B (broadcast S32x1 0#32))) (broadcast S32x1 (Scalar.ofBits (F := Ideal) .f32 0x3F800000#32)) (broadcast S32x1 (Scalar.ofBits (F := Ideal) .f32 0x00000000#32))) shapeCasts_S32x1_S1x32x1) (ix3 0 r 0))
  generalize shapeCast S32x1 (multiReductionI .add [1] S32 v35 0#32 reduces_S32x8732_S32 rfl) shapeCasts_S32_S32x1 = A
  exact (Idealize.ShloMosaic.ValueIdx.shapeCast_ab_1ab_apply (a := 32) (b := 1) (select (andi (cmpi .sgt A B) (cmpi .sgt B (broadcast S32x1 0#32))) (broadcast S32x1 (Scalar.ofBits (F := Ideal) .f32 0x3F800000#32)) (broadcast S32x1 (Scalar.ofBits (F := Ideal) .f32 0x00000000#32))) shapeCasts_S32x1_S1x32x1 0 r 0).symm

/-- One, as a constant of the program. -/
theorem ofBits_one : Ideal.ofBits .f32 0x3F800000#32 = (1 : EReal) := by
  simp [Ideal.ofBits, Ideal.ieee, -EReal.coe_mul]; norm_num

/-- A greatest flag of one passes the body's test. -/
theorem flag_on (M : Ideal .f32) (hm : (1 : EReal) ≤ M) : Scalar.cmpi .ne (Scalar.extui (Scalar.cmpf .ogt M (Scalar.ofBits (F := Ideal) .f32 0x00000000#32))) 0#32 = 1#1 := by
  have hz : Scalar.cmpf .ogt M (Scalar.ofBits (F := Ideal) .f32 0x00000000#32) = 1#1 := by
    have h0 : Ideal.ofBits .f32 0x00000000#32 = 0 := Ideal.ofBits_zero_f32
    refine (Ideal.cmp_ogt_eq_one _ _).2 ?_
    show Ideal.ofBits .f32 0x00000000#32 < M
    rw [h0]
    exact lt_of_lt_of_le zero_lt_one hm
  rw [hz]
  rfl

/-- A row with more ties than it takes, and some to take, makes the body search the ties. -/
theorem needSlow_of (r : Fin 32) (h1 : (left x0 x1 r).toInt < (ties x0 x1 r).card) (h2 : 0 < (left x0 x1 r).toInt) : needSlow x0 x1 = 1#1 := by
  have hflag : IntOp.andi (IntOp.cmpi .sgt (BitVec.ofNat 32 (ties x0 x1 r).card) (left x0 x1 r)) (IntOp.cmpi .sgt (left x0 x1 r) 0#32) = 1#1 := by
    rw [IntOp.andi_eq_one, IntOp.cmpi_sgt, IntOp.cmpi_sgt, toInt_small _ (lt_of_le_of_lt (card_small _) (by norm_num))]
    exact ⟨h1, h2⟩
  have hm := pay1_ge _ (k0_pay24 (F := Ideal) x0 x1 (search x0 x1)) (k0_pay26 (F := Ideal) x0 (search x0 x1)) r rfl
  rw [ecnt_at, pay24_at] at hm
  have e : IntOp.andi (IntOp.cmpi .sgt (BitVec.ofNat 32 (ties x0 x1 r).card) (kRow x1 r - BitVec.ofNat 32 (above x0 x1 r).card)) (IntOp.cmpi .sgt (kRow x1 r - BitVec.ofNat 32 (above x0 x1 r).card) 0#32) = 1#1 := hflag
  rw [e, ofBits_one] at hm
  exact flag_on _ hm

/-- The ties taken are as many as are left to take. -/
theorem taken_card (r : Fin 32) (h : (left x0 x1 r).toInt ≤ (ties x0 x1 r).card) :
    ((taken x0 x1 r).card : ℤ) = max (left x0 x1 r).toInt 0 := by
  unfold taken
  rcases lt_or_ge 0 (left x0 x1 r).toInt with hpos | hle
  · rw [max_eq_left hpos.le]
    split
    · have e := (tieSearch_card x0 x1 r (by omega) h).1
      refine Eq.trans ?_ e
      exact congrArg (fun S : Finset (Fin 8732) => (S.card : ℤ)) (Finset.filter_congr fun j _ => ⟨fun x => x.1, fun x => ⟨x, hpos⟩⟩)
    · rename_i hs
      rw [Finset.filter_true_of_mem fun _ _ => hpos]
      by_contra hne
      exact hs (needSlow_of x0 x1 r (by omega) hpos)
  · rw [max_eq_right hle]
    split
    · rw [Finset.filter_false_of_mem fun j _ x => absurd x.2 (not_lt.2 hle)]; rfl
    · rw [Finset.filter_false_of_mem fun j _ x => absurd x (not_lt.2 hle)]; rfl

end Cert.SelectIdeal.Value

end
-- ==== Proof.SelSums.lean ====
/- The second call's sums over the extended reals: the two masked sums and the combination with the arguments. -/
module

public import proofs.«01_k».proof.Proof.SelValue

@[expose] public section

set_option maxRecDepth 16384

noncomputable section

namespace Cert.SelectIdeal.Value

open Cert.SelectIdeal Cert.SelectIdeal.Gen Idealize.ShloMosaic Idealize.ShloMosaic.TcCoe
open Cert.Hnm

/-- A masked array's total: per row, the sum over the positions the mask holds. -/
theorem mask_sum (p : IVec S32x8732 1) (v : FVec Ideal S32x8732 .f32) :
    extractAt ![0, 0, 0] (shapeCast S1x1x1 (multiReduction .add [1, 2] S1 (shapeCast S1x32x8732 (select p v (broadcast S32x8732 (Scalar.ofBits (F := Ideal) .f32 0x00000000#32))) shapeCasts_S32x8732_S1x32x8732) 0x00000000#32 reduces_S1x32x8732_S1 (.inl rfl) rfl) shapeCasts_S1_S1x1x1) inpos_S1x1x1_p0_0_0
      = ∑ r : Fin 32, ∑ j ∈ Finset.univ.filter (fun j : Fin 8732 => p (ix2 r j) = 1#1), (v (ix2 r j) : EReal) := by
  pointwise
  refine Finset.sum_congr rfl fun r _ => ?_
  rw [Finset.sum_filter]
  rfl

/-- A masked array's row sums kept where the row's flag holds, and their total. -/
theorem mask_rows (p : IVec S32x8732 1) (q : IVec S32x1 1) (v : FVec Ideal S32x8732 .f32) :
    extractAt ![0, 0, 0] (shapeCast S1x1x1 (multiReduction .add [1, 2] S1 (shapeCast S1x32x1 (select q (shapeCast S32x1 (multiReduction .add [1] S32 (select p v (broadcast S32x8732 (Scalar.ofBits (F := Ideal) .f32 0x00000000#32))) 0x00000000#32 reduces_S32x8732_S32 (.inl rfl) rfl) shapeCasts_S32_S32x1) (broadcast S32x1 (Scalar.ofBits (F := Ideal) .f32 0x00000000#32))) shapeCasts_S32x1_S1x32x1) 0x00000000#32 reduces_S1x32x1_S1 (.inl rfl) rfl) shapeCasts_S1_S1x1x1) inpos_S1x1x1_p0_0_0
      = ∑ r : Fin 32, if q (ix2 r 0) = 1#1 then ∑ j ∈ Finset.univ.filter (fun j : Fin 8732 => p (ix2 r j) = 1#1), (v (ix2 r j) : EReal) else 0 := by
  pointwise
  refine Finset.sum_congr rfl fun r _ => (Fin.sum_univ_one _).trans ?_
  rw [Finset.sum_filter]
  rfl

variable (x0 : Vec Ideal S32x1x8732 .i32) (x1 : Vec Ideal S32x1x1 .i32)

/-- A key read as a score. -/
def score (r : Fin 32) (j : Fin 8732) : EReal := Ideal.ofBits .f32 (keyRow x0 r j)

theorem pay14_at (r : Fin 32) (j : Fin 8732) : k0_pay14 (F := Ideal) x0 (ix2 r j) = score x0 r j := by
  unfold k0_pay14 score
  exact congrArg (Ideal.ofBits .f32) (pay13_at x0 r j)

/-- The slow branch's mask: a tie up to the index found, in a row with some to take. -/
theorem slow_at (L : IVec S32x1 32) (E : IVec S32x8732 1) (X : IVec S32x1 32) (r : Fin 32) (j : Fin 8732) :
    andi (andi E (cmpi .sle (iota .tc S32x8732 32 [1] iota_S32x8732_d1_w32) (broadcastTo S32x8732 X broadcasts_S32x1_S32x8732)))
        (broadcastTo S32x8732 (cmpi .sgt L (broadcast S32x1 0#32)) broadcasts_S32x1_S32x8732) (ix2 r j)
      = IntOp.andi (IntOp.andi (E (ix2 r j)) (IntOp.cmpi .sle (BitVec.ofNat 32 j.val) (X (ix2 r 0)))) (IntOp.cmpi .sgt (L (ix2 r 0)) 0#32) := by
  pointwise

/-- The tied keys' sum: per row, over the ties taken. -/
theorem tieSum_eq (hk : ∀ r, (left x0 x1 r).toInt ≤ (ties x0 x1 r).card) :
    tieSum x0 x1 = ∑ r : Fin 32, ∑ j ∈ taken x0 x1 r, score x0 r j := by
  unfold tieSum taken
  split
  · unfold k0_pay6
    refine (mask_sum _ _).trans (Finset.sum_congr rfl fun r _ => Finset.sum_congr ?_ fun j _ => pay14_at x0 r j)
    rw [ties, Finset.filter_filter]
    refine Finset.filter_congr fun j _ => ?_
    refine (iff_of_eq (congrArg (· = 1#1) (slow_at _ _ _ r j))).trans ?_
    rw [IntOp.andi_eq_one, IntOp.andi_eq_one, IntOp.cmpi_sgt, IntOp.cmpi_sle, pay25_at, pay24_at, and_assoc]
    refine and_congr_right fun _ => ?_
    refine and_congr_left fun h => ?_
    have hpos : 0 < (left x0 x1 r).toInt := h
    have hb := (tieSearch_card x0 x1 r (by omega) (hk r)).2
    have hj := j.isLt
    rw [toInt_small _ (by omega), BitVec.toInt_eq_toNat_of_lt (by omega)]
    exact Int.ofNat_le
  · unfold k0_pay7
    refine (mask_rows _ _ _).trans (Finset.sum_congr rfl fun r _ => ?_)
    have e : (cmpi .sgt (k0_pay24 x0 x1 (search x0 x1)) (broadcast S32x1 0#32) (ix2 r 0) = 1#1) ↔ 0 < (left x0 x1 r).toInt := by
      refine (iff_of_eq (congrArg (· = 1#1) (show _ = IntOp.cmpi .sgt (k0_pay24 x0 x1 (search x0 x1) (ix2 r 0)) 0#32 from rfl))).trans ?_
      rw [IntOp.cmpi_sgt, pay24_at]
      exact Iff.rfl
    by_cases h : 0 < (left x0 x1 r).toInt
    · rw [if_pos (e.2 h), Finset.filter_true_of_mem fun _ _ => h]
      refine Finset.sum_congr ?_ fun j _ => pay14_at x0 r j
      exact Finset.filter_congr fun j _ => pay25_at x0 x1 r j
    · rw [if_neg fun h' => h (e.1 h'), Finset.filter_false_of_mem fun _ _ => h, Finset.sum_empty]

/-- The hard negatives' sum as the body takes it. -/
def hardSum : EReal := ∑ r : Fin 32, (∑ j ∈ above x0 x1 r, score x0 r j + ∑ j ∈ taken x0 x1 r, score x0 r j)

/-- The classification result: the positives' sum and the hard negatives', over the number of positives. -/
theorem pay9_eq (hk : ∀ r, (left x0 x1 r).toInt ≤ (ties x0 x1 r).card) (v14 v21 : Ideal .f32) :
    k0_pay9 (F := Ideal) (k0_pay14 x0) v14 v21 (k0_pay23 x0 (search x0 x1)) (tieSum x0 x1)
      = Ideal.div ((v14 : EReal) + hardSum x0 x1) v21 := by
  rw [tieSum_eq x0 x1 hk]
  have e : ∀ r, (Finset.univ.filter fun j : Fin 8732 => k0_pay23 (F := Ideal) x0 (search x0 x1) (ix2 r j) = 1#1) = above x0 x1 r :=
    fun r => Finset.filter_congr fun j _ => pay23_at x0 x1 r j
  have e2 := mask_sum (k0_pay23 (F := Ideal) x0 (search x0 x1)) (k0_pay14 x0)
  unfold k0_pay9
  refine congrArg (fun s => Ideal.div s v21) ?_
  refine (congrArg (fun s : EReal => (v14 : EReal) + s + ∑ r : Fin 32, ∑ j ∈ taken x0 x1 r, score x0 r j) e2).trans ?_
  rw [add_assoc, ← Finset.sum_add_distrib]
  refine congrArg (fun s : EReal => (v14 : EReal) + s) (Finset.sum_congr rfl fun r _ => congrArg (fun s : EReal => s + _) ?_)
  rw [e r]
  exact Finset.sum_congr rfl fun j _ => pay14_at x0 r j

/-- The regression and classification sums' arguments are read whole. -/
theorem pay16_eq (v : Vec Ideal S1x1x1 .f32) : k0_pay16 (F := Ideal) v = v (ix3 0 0 0) := by
  pointwise [k0_pay16]
  rw [Ideal.reduceAdd_total _ (by decide), sum_idx4, Fin.sum_univ_one, Fin.sum_univ_one, Fin.sum_univ_one, Fin.sum_univ_one]
  pointwise
theorem pay17_eq (v : Vec Ideal S1x1x1 .f32) : k0_pay17 (F := Ideal) v = v (ix3 0 0 0) := by
  pointwise [k0_pay17]
  rw [Ideal.reduceAdd_total _ (by decide), sum_idx4, Fin.sum_univ_one, Fin.sum_univ_one, Fin.sum_univ_one, Fin.sum_univ_one]
  pointwise

/-- The number of positives, as a value. -/
theorem pay19_eq (x1 : Vec Ideal S32x1x1 .i32) :
    k0_pay19 (F := Ideal) x1 = (((Finset.univ.fold IntOp.addi 0#32 fun x : Fin 32 × Fin 1 => x1 (ix3 x.1 0 0)).toInt : ℝ) : EReal) := by
  have e : ∀ r : Fin 32, k0_pay15 (F := Ideal) x1 (ix2 r 0) = x1 (ix3 r 0 0) := fun r => by
    pointwise [k0_pay15]
  pointwise [k0_pay19]
  simp only [e]

end Cert.SelectIdeal.Value

end
-- ==== Proof.SelRef.lean ====
/- The second reference's values over the extended reals: scores ranked row by row by two sorts. -/
module

public import proofs.«01_k».proof.Proof.HnmSets
public import proofs.«01_k».proof.Proof.HnmWords
public import proofs.«01_k».proof.Proof.ScoresAlgebra
public import proofs.«01_k».proof.Proof.Gen.SelectRefIdeal.Run
public import Idealize.ShloMosaic.Lib.Pointwise
public import Idealize.ShloMosaic.Lib.IdealHost

@[expose] public section

set_option maxRecDepth 16384

noncomputable section

namespace Cert.SelectRefIdeal.Value

open Cert.SelectRefIdeal Cert.SelectRefIdeal.Gen Idealize.ShloMosaic Idealize.ShloMosaic.TcCoe
open Cert.Hnm

variable (x0 : IVec S32x1x8732 32) (x1 : IVec S32x1x1 32)

/-- The flags of the keys that are scores. -/
def kind : IVec S32x8732 1 := cmpi .sge (shapeCast S32x8732 x0 shapeCasts_S32x1x8732_S32x8732) (broadcastInDim S32x8732 ![] bcast_S_S32x8732 (constantI S_ 32 0#32))

/-- The scores, −∞ where a key is none. -/
def loss : FVec Ideal S32x8732 .f32 := select (kind x0) (bitcastToFloat (F := Ideal) .f32 (shapeCast S32x8732 x0 shapeCasts_S32x1x8732_S32x8732)) (broadcastInDim S32x8732 ![] bcast_S_S32x8732 (id (constant S_ .f32 0xFF800000#32)))

/-- The positions in the order of the scores. -/
def order (f : FVec Ideal S32x8732 .f32) : IVec S32x8732 32 := (Host.sort2 S32x8732 1 comparator_f32_i32_d1 (Host.negf f) (iotaInDim S32x8732 32 1)).2

/-- The positions' ranks. -/
def ranks (o : IVec S32x8732 32) : IVec S32x8732 32 := (Host.sort2 S32x8732 1 comparator_i32_i32_d1 o (iotaInDim S32x8732 32 1)).2

/-- The number of positives, as a value. -/
def count : FVec Ideal S_ .f32 := sitofp .f32 (Host.reduce IntOp.addi (shapeCast S32x1 x1 shapeCasts_S32x1x1_S32x1) (constantI S_ 32 0#32) reducesTo_S32x1_S_d0_1 h_S_)

/-- The hard negatives' flags. -/
def hard (q : IVec S32x8732 32) : IVec S32x8732 1 := andi (cmpi .slt q (broadcastInDim S32x8732 ![0, 1] bcast_S32x1_S32x8732_0_1 (muli (shapeCast S32x1 x1 shapeCasts_S32x1x1_S32x1) (broadcastInDim S32x1 ![] bcast_S_S32x1 (constantI S_ 32 3#32))))) (kind x0)

/-- The hard negatives' sum. -/
def hardTotal (h : IVec S32x8732 1) (f : FVec Ideal S32x8732 .f32) : FVec Ideal S_ .f32 :=
  Host.reduceAdd (select h f (broadcastInDim S32x8732 ![] bcast_S_S32x8732 (id (constant S_ .f32 0x00000000#32)))) (constant S_ .f32 0x00000000#32) reducesTo_S32x8732_S_d0_1 h_S_

/-- A row's keys. -/
def keyOf (r : Fin 32) : Fin 8732 → BitVec 32 := fun j => x0 (ix3 r 0 j)
/-- A row's scores. -/
def lossOf (r : Fin 32) : Fin 8732 → EReal := fun j => if 0 ≤ (keyOf x0 r j).toInt then Ideal.ofBits .f32 (keyOf x0 r j) else ⊥

theorem kind_at (r : Fin 32) (j : Fin 8732) : kind x0 (ix2 r j) = 1#1 ↔ 0 ≤ (keyOf x0 r j).toInt := by
  have e : kind x0 (ix2 r j) = IntOp.cmpi .sge (keyOf x0 r j) 0#32 := by
    pointwise [kind]
    rfl
  rw [e, IntOp.cmpi_sge]
  rfl

theorem loss_at (r : Fin 32) (j : Fin 8732) : loss x0 (ix2 r j) = lossOf x0 r j := by
  have e : loss x0 (ix2 r j) = Scalar.select (kind x0 (ix2 r j)) (Ideal.ofBits .f32 (keyOf x0 r j)) (Ideal.ofBits .f32 0xFF800000#32) := by
    pointwise [loss]
    rfl
  rw [e, Cert.Ssd.ofBits_ninf]
  unfold lossOf Scalar.select
  exact if_congr (kind_at x0 r j) rfl rfl

/-- Reading along a row. -/
theorem along_row (r : Fin 32) (j k : Fin 8732) : (Shape.Idx.along (s := S32x8732) (ix2 r j) 1 k) = ix2 r k := by
  funext a
  match a with
  | ⟨0, _⟩ => rfl
  | ⟨1, _⟩ => rfl

theorem iota_at (r : Fin 32) (k : Fin 8732) : iotaInDim S32x8732 32 1 (ix2 r k) = BitVec.ofNat 32 k.val := rfl

theorem iota_along (r : Fin 32) (j k : Fin 8732) : iotaInDim S32x8732 32 1 (Shape.Idx.along (s := S32x8732) (ix2 r j) 1 k) = BitVec.ofNat 32 k.val :=
  (congrArg (iotaInDim S32x8732 32 1) (along_row r j k)).trans (iota_at r k)

/-- A row of a sort that carries the positions: each is where its entry came from. -/
theorem sort2_at {α : Type} (cmp : α × BitVec 32 → α × BitVec 32 → BitVec 1) (x : S32x8732.Idx → α) (r : Fin 32) (j : Fin 8732) :
    (Host.sort2 S32x8732 1 cmp x (iotaInDim S32x8732 32 1)).2 (ix2 r j)
      = BitVec.ofNat 32 (sortedFrom (fun k k' : Fin 8732 => cmp (x (ix2 r k), BitVec.ofNat 32 k.val) (x (ix2 r k'), BitVec.ofNat 32 k'.val) == 1#1) j).val := by
  have e : (Host.sort2 S32x8732 1 cmp x (iotaInDim S32x8732 32 1)).2 (ix2 r j)
      = iotaInDim S32x8732 32 1 (Shape.Idx.along (s := S32x8732) (ix2 r j) 1 (sortedFrom (fun k k' : Fin 8732 =>
        cmp (x (Shape.Idx.along (s := S32x8732) (ix2 r j) 1 k), iotaInDim S32x8732 32 1 (Shape.Idx.along (s := S32x8732) (ix2 r j) 1 k))
          (x (Shape.Idx.along (s := S32x8732) (ix2 r j) 1 k'), iotaInDim S32x8732 32 1 (Shape.Idx.along (s := S32x8732) (ix2 r j) 1 k')) == 1#1) j)) := rfl
  refine e.trans ((iota_along r j _).trans ?_)
  refine congrArg (fun B : Fin 8732 → Fin 8732 → Bool => BitVec.ofNat 32 (sortedFrom B j).val) (funext fun k => funext fun k' => ?_)
  rw [along_row, along_row, iota_at, iota_at]

/-- The first comparison is of the scores, the larger first. -/
theorem first_cmp (a b : EReal) (i j : BitVec 32) :
    (comparator_f32_i32_d1 (F := Ideal) (-a, i) (-b, j) == 1#1) = true ↔ b < a := by
  have hsel : ∀ z : EReal, Scalar.select (Ideal.cmp .une z z) (Ideal.ofBits .f32 0x7FC00000#32) (Scalar.select (Ideal.cmp .oeq z (Ideal.ofBits .f32 0x00000000#32)) (Ideal.ofBits .f32 0x00000000#32) z) = z := by
    intro z
    have h1 : Ideal.cmp .une z z = 0#1 := by rw [Ideal.cmp_une]; simp
    rw [h1, Ideal.cmp_oeq]
    unfold Scalar.select
    rw [if_neg (by decide)]
    by_cases h : z = Ideal.ofBits .f32 0x00000000#32
    · rw [if_pos (by simp [h]), ← h]
    · rw [decide_eq_false h]; rfl
  have e : comparator_f32_i32_d1 (F := Ideal) (-a, i) (-b, j) = Ideal.cmp .olt (-a) (-b) :=
    (show _ = Ideal.cmp .olt (Scalar.select (Ideal.cmp .une (-a) (-a)) (Ideal.ofBits .f32 0x7FC00000#32) (Scalar.select (Ideal.cmp .oeq (-a) (Ideal.ofBits .f32 0x00000000#32)) (Ideal.ofBits .f32 0x00000000#32) (-a)))
      (Scalar.select (Ideal.cmp .une (-b) (-b)) (Ideal.ofBits .f32 0x7FC00000#32) (Scalar.select (Ideal.cmp .oeq (-b) (Ideal.ofBits .f32 0x00000000#32)) (Ideal.ofBits .f32 0x00000000#32) (-b))) from rfl).trans (by rw [hsel, hsel])
  rw [e, beq_iff_eq]
  exact (Ideal.cmp_olt_eq_one _ _).trans EReal.neg_lt_neg_iff

/-- A row of the order: the positions sorted by the scores. -/
theorem order_at (f : FVec Ideal S32x8732 .f32) (r : Fin 32) :
    ∃ B1 : Fin 8732 → Fin 8732 → Bool, (∀ a b, B1 a b = true ↔ (f (ix2 r b) : EReal) < f (ix2 r a)) ∧
      ∀ j, order f (ix2 r j) = BitVec.ofNat 32 (sortedFrom B1 j).val :=
  ⟨fun k k' => comparator_f32_i32_d1 (F := Ideal) (Host.negf f (ix2 r k), BitVec.ofNat 32 k.val) (Host.negf f (ix2 r k'), BitVec.ofNat 32 k'.val) == 1#1,
    fun a b => first_cmp _ _ _ _, fun j => sort2_at _ _ r j⟩

/-- A row of the ranks: the positions sorted by the order. -/
theorem ranks_at (o : IVec S32x8732 32) (r : Fin 32) (π : Fin 8732 → Fin 8732) (ho : ∀ j, o (ix2 r j) = BitVec.ofNat 32 (π j).val) :
    ∃ B2 : Fin 8732 → Fin 8732 → Bool, (∀ a b, B2 a b = true ↔ π a < π b) ∧
      ∀ j, ranks o (ix2 r j) = BitVec.ofNat 32 (sortedFrom B2 j).val := by
  refine ⟨fun k k' => comparator_i32_i32_d1 (o (ix2 r k), BitVec.ofNat 32 k.val) (o (ix2 r k'), BitVec.ofNat 32 k'.val) == 1#1, fun a b => ?_, fun j => sort2_at _ _ r j⟩
  have e : comparator_i32_i32_d1 (o (ix2 r a), BitVec.ofNat 32 a.val) (o (ix2 r b), BitVec.ofNat 32 b.val) = IntOp.cmpi .slt (o (ix2 r a)) (o (ix2 r b)) := rfl
  rw [beq_iff_eq, e, IntOp.cmpi_slt, ho, ho, toInt_small _ (by have := (π a).isLt; omega), toInt_small _ (by have := (π b).isLt; omega), Fin.lt_def]
  exact Int.ofNat_lt

/-- A row's ranks as a whole: those before `k` hold the largest scores, and are `k` many. -/
theorem ranks_row (f : FVec Ideal S32x8732 .f32) (r : Fin 32) (k : ℤ) (hk : k ≤ 8732) :
    (∀ a b, (ranks (order f) (ix2 r a)).toInt < k → ¬ (ranks (order f) (ix2 r b)).toInt < k → (f (ix2 r b) : EReal) ≤ f (ix2 r a))
      ∧ ((Finset.univ.filter fun j : Fin 8732 => (ranks (order f) (ix2 r j)).toInt < k).card : ℤ) = max k 0 := by
  obtain ⟨B1, h1, e1⟩ := order_at f r
  obtain ⟨B2, h2, e2⟩ := ranks_at (order f) r _ e1
  have e : ∀ j, (ranks (order f) (ix2 r j)).toInt = ((sortedFrom B2 j).val : ℤ) := fun j => by
    rw [e2, toInt_small _ (by have := (sortedFrom B2 j).isLt; omega)]
  refine ⟨fun a b ha hb => ?_, ?_⟩
  · rw [e] at ha hb
    exact rank_top B1 B2 (fun j => (f (ix2 r j) : EReal)) h1 h2 k a b ha hb
  · refine Eq.trans ?_ (rank_card B2 k hk)
    exact congrArg (fun S : Finset (Fin 8732) => (S.card : ℤ)) (Finset.filter_congr fun j _ => by rw [e])

/-- A row's bound: thrice its positives. -/
def kOf (r : Fin 32) : BitVec 32 := IntOp.muli (x1 (ix3 r 0 0)) 3#32

theorem hard_at (q : IVec S32x8732 32) (r : Fin 32) (j : Fin 8732) :
    hard x0 x1 q (ix2 r j) = 1#1 ↔ (q (ix2 r j)).toInt < (kOf x1 r).toInt ∧ 0 ≤ (keyOf x0 r j).toInt := by
  have e : hard x0 x1 q (ix2 r j) = IntOp.andi (IntOp.cmpi .slt (q (ix2 r j)) (kOf x1 r)) (kind x0 (ix2 r j)) := by
    pointwise [hard]
    rfl
  rw [e, IntOp.andi_eq_one, IntOp.cmpi_slt, kind_at]

/-- The masked total: per row, the sum over the positions the mask holds. -/
theorem hardTotal_at (h : IVec S32x8732 1) (f : FVec Ideal S32x8732 .f32) (i : S_.Idx) :
    hardTotal h f i = ∑ r : Fin 32, ∑ j ∈ Finset.univ.filter (fun j : Fin 8732 => h (ix2 r j) = 1#1), (f (ix2 r j) : EReal) := by
  pointwise [hardTotal]
  refine Finset.sum_congr rfl fun r _ => ?_
  rw [Finset.sum_filter]
  refine Finset.sum_congr rfl fun j _ => ?_
  unfold Scalar.select
  exact if_congr Iff.rfl rfl Ideal.ofBits_zero_f32

theorem count_at (i : S_.Idx) : count x1 i = (((Finset.univ.fold IntOp.addi 0#32 fun x : Fin 32 × Fin 1 => x1 (ix3 x.1 0 0)).toInt : ℝ) : EReal) := by
  pointwise [count]
  rfl

end Cert.SelectRefIdeal.Value

end
-- ==== Proof.SelJoin.lean ====
/- The second call's sum is its reference's: row by row, both take as many largest scores as asked. -/
module

public import proofs.«01_k».proof.Proof.SelSums
public import proofs.«01_k».proof.Proof.SelRef

@[expose] public section

set_option maxRecDepth 16384

noncomputable section

namespace Cert.SelectRefIdeal.Value

open Cert.SelectRefIdeal Cert.SelectRefIdeal.Gen Idealize.ShloMosaic Idealize.ShloMosaic.TcCoe
open Cert.Hnm
open Cert.SelectIdeal.Value (avail kRow keyRow above taken ties left thr score hardSum row_facts taken_card)

variable (x0 : IVec S32x1x8732 32) (x1 : IVec S32x1x1 32)

theorem kOf_eq (r : Fin 32) : kOf x1 r = kRow x1 r := BitVec.mul_comm _ _

/-- A key that is a score, as a word. -/
theorem score_word (k : BitVec 32) (h0 : 0 ≤ k.toInt) (h1 : k.toInt ≤ 2139095040) : (k.toNat : ℤ) = k.toInt ∧ k.toNat ≤ 0x7F800000 := by
  have e := BitVec.toInt_eq_toNat_cond k
  have := k.isLt
  split at e <;> constructor <;> omega

variable (r : Fin 32) (hkey : ∀ j, (keyOf x0 r j).toInt ≤ 2139095040)

include hkey in
/-- A score is at least zero, and larger keys are larger scores. -/
theorem loss_nonneg (j : Fin 8732) (h : 0 ≤ (keyOf x0 r j).toInt) : 0 ≤ lossOf x0 r j := by
  obtain ⟨e, e'⟩ := score_word _ h (hkey j)
  unfold lossOf
  rw [if_pos h]
  exact (decode_facts _ _ e' e' le_rfl).1

include hkey in
theorem loss_mono (a b : Fin 8732) (h : (keyOf x0 r a).toInt ≤ (keyOf x0 r b).toInt) : lossOf x0 r a ≤ lossOf x0 r b := by
  by_cases ha : 0 ≤ (keyOf x0 r a).toInt
  · have hb : 0 ≤ (keyOf x0 r b).toInt := le_trans ha h
    have hb1 : (keyOf x0 r b).toInt ≤ 2139095040 := hkey b
    obtain ⟨e, e'⟩ := score_word _ ha (le_trans h hb1)
    obtain ⟨g, g'⟩ := score_word _ hb hb1
    unfold lossOf
    rw [if_pos ha, if_pos hb]
    exact (decode_facts _ _ e' g' (by omega)).2
  · unfold lossOf
    rw [if_neg ha]
    exact bot_le

include hkey in
/-- A row's two sums are one. -/
theorem row_sum (hk : (kRow x1 r).toInt ≤ avail x0 r) :
    ∑ j ∈ above x0 x1 r, score x0 r j + ∑ j ∈ taken x0 x1 r, score x0 r j
      = ∑ j ∈ Finset.univ.filter (fun j : Fin 8732 => hard x0 x1 (ranks (order (loss x0))) (ix2 r j) = 1#1), (loss x0 (ix2 r j) : EReal) := by
  obtain ⟨hthr, hcard, hle⟩ := row_facts x0 x1 r hk
  have htaken := taken_card x0 x1 r hle
  have hav : avail x0 r ≤ 8732 := card_small _
  obtain ⟨htop, hR⟩ := ranks_row (loss x0) r (kRow x1 r).toInt (by omega)
  simp only [loss_at] at htop
  set R : Finset (Fin 8732) := Finset.univ.filter fun j => (ranks (order (loss x0)) (ix2 r j)).toInt < (kRow x1 r).toInt with hRdef
  have hRtop : ∀ a ∈ R, ∀ b, b ∉ R → lossOf x0 r b ≤ lossOf x0 r a := fun a ha b hb => by
    rw [hRdef, Finset.mem_filter] at ha hb
    exact htop a b ha.2 fun h => hb ⟨Finset.mem_univ _, h⟩
  have hkind : ∀ a ∈ R, 0 ≤ (keyOf x0 r a).toInt :=
    top_kind (lossOf x0 r) (fun j => 0 ≤ (keyOf x0 r j).toInt) R
      (fun a b ha hb => lt_of_lt_of_le (by unfold lossOf; rw [if_neg ha]; exact EReal.bot_lt_zero) (loss_nonneg x0 r hkey b hb))
      (by
        have : (R.card : ℤ) ≤ avail x0 r := by rw [hR]; exact max_le hk (Int.natCast_nonneg _)
        exact Int.ofNat_le.1 this)
      hRtop
  have hset : (Finset.univ.filter fun j : Fin 8732 => hard x0 x1 (ranks (order (loss x0))) (ix2 r j) = 1#1) = R := by
    rw [hRdef]
    refine Finset.filter_congr fun j _ => ?_
    rw [hard_at, kOf_eq]
    refine ⟨fun h => h.1, fun h => ⟨h, hkind j ?_⟩⟩
    rw [hRdef, Finset.mem_filter]
    exact ⟨Finset.mem_univ _, h⟩
  have hsub : ∀ j ∈ taken x0 x1 r, (keyRow x0 r j).toInt = thr x0 x1 r := fun j hj => by
    have hj' : j ∈ ties x0 x1 r := by
      unfold taken at hj
      split at hj
      · exact (Finset.mem_filter.1 hj).1
      · exact (Finset.mem_filter.1 hj).1
    rw [ties, Finset.mem_filter] at hj'
    exact hj'.2
  have hab : ∀ j ∈ above x0 x1 r, thr x0 x1 r < (keyRow x0 r j).toInt := fun j hj => by
    rw [above, Finset.mem_filter] at hj
    exact hj.2
  have hsc : ∀ j, 0 ≤ (keyRow x0 r j).toInt → score x0 r j = lossOf x0 r j := fun j h => (if_pos h).symm
  rw [hset]
  have hmain := select_sum (fun j => (keyRow x0 r j).toInt) (lossOf x0 r) (thr x0 x1 r) (taken x0 x1 r) R
    (fun a b h => loss_mono x0 r hkey a b h) hsub
    (by
      have : ((above x0 x1 r).card : ℤ) + (taken x0 x1 r).card = R.card := by rw [htaken, hcard, hR]
      exact_mod_cast this)
    hRtop
  rw [Finset.sum_congr rfl fun j hj => hsc j (by have := hab j hj; omega),
    Finset.sum_congr rfl fun j hj => hsc j (by have := hsub j hj; omega)]
  refine hmain.trans (Finset.sum_congr rfl fun j _ => (loss_at x0 r j).symm)

end Cert.SelectRefIdeal.Value

end
-- ==== Proof.SelPre.lean ====
/- What the second call's precondition says of its arguments. -/
module

public import proofs.«01_k».proof.Pre_scored
public import proofs.«01_k».proof.Proof.HnmWords
public import Idealize.ShloMosaic.Lib.ReduceAll
public import Idealize.ShloMosaic.Lib.WordCmp
public import Idealize.ShloMosaic.Lib.Affine
public import Idealize.ShloMosaic.Lib.IndicatorCount
public import Idealize.ShloMosaic.Lib.Pointwise

@[expose] public section

set_option maxRecDepth 16384

noncomputable section

namespace Cert.Ssd

open Idealize.ShloMosaic Cert.Hnm Cert.Pre_scored Cert.Pre_scored.Facts

variable [hF : Cert.Pre_scored.Facts]

/-- A row's number of scores, as the precondition counts them. -/
def counted (a0 : IVec S32x1x8732 32) : IVec S32 32 :=
  Host.reduce IntOp.addi (extui 32 (cmpi .sge (shapeCast S32x8732 a0 shapeCasts_S32x1x8732_S32x8732) (broadcastInDim S32x8732 ![] bcast_S_S32x8732 (constantI S_ 32 0#32))) natLt_1_32) (constantI S_ 32 0#32) reducesTo_S32x8732_S32_d1 h_S_

theorem counted_at (a0 : IVec S32x1x8732 32) (r : Fin 32) :
    counted a0 (ix1 r) = BitVec.ofNat 32 (Finset.univ.filter fun j : Fin 8732 => 0 ≤ (a0 (ix3 r 0 j)).toInt).card := by
  have e := IndicatorCount.fold_addi_setWidth_eq_card (w := 32) (fun j : Fin 8732 => IntOp.cmpi .sge (a0 (ix3 r 0 j)) 0#32) Finset.univ
  refine Eq.trans ?_ (e.trans (congrArg (fun S : Finset (Fin 8732) => BitVec.ofNat 32 S.card) (Finset.filter_congr fun j _ => ?_)))
  · pointwise [counted]
  · rw [IntOp.cmpi_sge]; rfl

/-- A row's number read off the column it is spread along. -/
theorem row_read (v : IVec S32 32) (r : Fin 32) : broadcastInDim S32x1 ![0] bcast_S32_S32x1_0 v (ix2 r 0) = v (ix1 r) := by
  pointwise

/-- No key is past the word of +∞, and no row asks for more negatives than it has. -/
theorem scored_facts (a0 : IVec S32x1x8732 32) (a1 : IVec S32x1x1 32) (a2 a3 : FVec Ideal S1x1x1 .f32)
    (h : Cert.Pre_scored.fn (F := Ideal) a0 a1 a2 a3 = fun _ => 1#1) :
    (∀ r j, (a0 (ix3 r 0 j)).toInt ≤ 2139095040)
      ∧ ∀ r, (IntOp.muli 3#32 (a1 (ix3 r 0 0))).toInt ≤ ((Finset.univ.filter fun j : Fin 8732 => 0 ≤ (a0 (ix3 r 0 j)).toInt).card : ℤ) := by
  have hs : Subsingleton S_.Idx := ⟨fun a b => funext fun k => k.elim0⟩
  have h0 := congrFun h (fun k => k.elim0)
  obtain ⟨h1, h2⟩ := IntOp.andi_eq_one.1 (show IntOp.andi _ _ = 1#1 from h0)
  refine ⟨fun r j => ?_, fun r => ?_⟩
  · have e := Host.reduce_andi_all _ _ _ _ _ h1 (ix3 r 0 j)
    exact IntOp.cmpi_sle.1 e
  · have e := Host.reduce_andi_all _ _ _ _ _ h2 (ix2 r 0)
    have e' : (IntOp.muli 3#32 (a1 (ix3 r 0 0))).toInt ≤ (counted a0 (ix1 r)).toInt := by
      refine le_trans (le_of_eq ?_) ((IntOp.cmpi_sle.1 e).trans (le_of_eq ?_))
      · refine congrArg BitVec.toInt ?_
        pointwise
      · exact congrArg BitVec.toInt (row_read (counted a0) r)
    rw [counted_at, toInt_small _ (lt_of_le_of_lt (card_small _) (by norm_num))] at e'
    exact e'

end Cert.Ssd

end
-- ==== Proof.SelectClaim.lean ====
/- The second call agrees with its reference over the extended reals. -/
module

public import proofs.«01_k».proof.Defs
public import proofs.«01_k».proof.Proof.SelJoin
public import proofs.«01_k».proof.Proof.SelPre

@[expose] public section

set_option maxRecDepth 16384

noncomputable section

namespace Cert.SelectRefIdeal.Value

open Cert.SelectRefIdeal Cert.SelectRefIdeal.Gen Idealize.ShloMosaic Idealize.ShloMosaic.TcCoe
open Cert.SelectIdeal.Value (avail kRow left ties hardSum row_facts)

variable (x0 : IVec S32x1x8732 32) (x1 : IVec S32x1x1 32) (x2 x3 : FVec Ideal S1x1x1 .f32)

/-- The regression value. -/
def regOf : FVec Ideal S_ .f32 := Host.divf (shapeCast S_ x2 shapeCasts_S1x1x1_S_) (count x1)
/-- The classification value. -/
def clsOf : FVec Ideal S_ .f32 :=
  Host.divf (addf (shapeCast S_ x3 shapeCasts_S1x1x1_S_) (hardTotal (hard x0 x1 (ranks (order (loss x0)))) (loss x0))) (count x1)

/-- The one element of a one-element array. -/
theorem one_read (v : FVec Ideal S1x1x1 .f32) (i : S_.Idx) : shapeCast S_ v shapeCasts_S1x1x1_S_ i = v (ix3 0 0 0) := by
  unfold shapeCast
  refine congrArg v (funext fun a => Fin.ext ?_)
  match a with
  | ⟨0, h⟩ => have := (Shape.reshapeEquiv shapeCasts_S1x1x1_S_ i ⟨0, h⟩).isLt; exact Nat.lt_one_iff.1 this
  | ⟨1, h⟩ => have := (Shape.reshapeEquiv shapeCasts_S1x1x1_S_ i ⟨1, h⟩).isLt; exact Nat.lt_one_iff.1 this
  | ⟨2, h⟩ => have := (Shape.reshapeEquiv shapeCasts_S1x1x1_S_ i ⟨2, h⟩).isLt; exact Nat.lt_one_iff.1 this

theorem regOf_at (i : S_.Idx) : regOf x1 x2 i = Cert.SelectIdeal.Gen.k0_pay8 (F := Ideal) (Cert.SelectIdeal.Gen.k0_pay16 x2) (Cert.SelectIdeal.Gen.k0_pay19 x1) := by
  have e : regOf x1 x2 i = Ideal.div (shapeCast S_ x2 shapeCasts_S1x1x1_S_ i) (count x1 i) := rfl
  have e' : Cert.SelectIdeal.Gen.k0_pay8 (F := Ideal) (Cert.SelectIdeal.Gen.k0_pay16 x2) (Cert.SelectIdeal.Gen.k0_pay19 x1)
      = Ideal.div (Cert.SelectIdeal.Gen.k0_pay16 (F := Ideal) x2) (Cert.SelectIdeal.Gen.k0_pay19 (F := Ideal) x1) := rfl
  rw [e, e', one_read, count_at, Cert.SelectIdeal.Value.pay16_eq, Cert.SelectIdeal.Value.pay19_eq]

variable (hkey : ∀ r j, (keyOf x0 r j).toInt ≤ 2139095040)
  (hk : ∀ r, (kRow x1 r).toInt ≤ avail x0 r)

include hkey hk in
theorem clsOf_at (i : S_.Idx) : clsOf x0 x1 x3 i
    = Cert.SelectIdeal.Gen.k0_pay9 (F := Ideal) (Cert.SelectIdeal.Gen.k0_pay14 x0) (Cert.SelectIdeal.Gen.k0_pay17 x3) (Cert.SelectIdeal.Gen.k0_pay19 x1)
        (Cert.SelectIdeal.Gen.k0_pay23 (F := Ideal) x0 (Cert.SelectIdeal.Gen.search (F := Ideal) x0 x1)) (Cert.SelectIdeal.Gen.tieSum x0 x1) := by
  have e : clsOf x0 x1 x3 i = Ideal.div ((shapeCast S_ x3 shapeCasts_S1x1x1_S_ i : EReal)
      + hardTotal (hard x0 x1 (ranks (order (loss x0)))) (loss x0) i) (count x1 i) := rfl
  rw [e, Cert.SelectIdeal.Value.pay9_eq x0 x1 (fun r => (row_facts x0 x1 r (hk r)).2.2), one_read, count_at, hardTotal_at,
    Cert.SelectIdeal.Value.pay17_eq, Cert.SelectIdeal.Value.pay19_eq]
  refine congrArg (fun s : EReal => Ideal.div ((x3 (ix3 0 0 0) : EReal) + s) _) ?_
  exact Finset.sum_congr rfl fun r _ => (row_sum x0 x1 r (hkey r) (hk r)).symm

/-- The three results, as the second call leaves them. -/
theorem reg_value : shapeCast S1x1 (regOf x1 x2) shapeCasts_S_S1x1 = Cert.SelectIdeal.Gen.outReg (F := Ideal) x1 x2 :=
  funext fun _ => regOf_at x1 x2 _

include hkey hk in
theorem cls_value : shapeCast S1x1 (clsOf x0 x1 x3) shapeCasts_S_S1x1 = Cert.SelectIdeal.Gen.outCls (F := Ideal) x0 x1 x3 :=
  funext fun _ => clsOf_at x0 x1 x3 hkey hk _

include hkey hk in
theorem total_value : shapeCast S1x1 (addf (regOf x1 x2) (clsOf x0 x1 x3)) shapeCasts_S_S1x1 = Cert.SelectIdeal.Gen.outTotal (F := Ideal) x0 x1 x2 x3 :=
  funext fun _ => Ideal.add_congr (regOf_at x1 x2 _) (clsOf_at x0 x1 x3 hkey hk _)

end Cert.SelectRefIdeal.Value

namespace Cert.Parts

open Idealize.ShloMosaic Idealize.ShloMosaic.TcCoe Idealize.SL.Sem
open Cert.SelectRefIdeal.Value

/-- The second call's kernel and reference end at the same three losses. -/
theorem algebraicSelect [Cert.Pre_scored.Facts] : Cert.algebraic_SelectIdeal_SelectRefIdeal_pre_scored := by
  intro m g m' g' hp ha
  have hd := fun c => Cert.Ssd.scored_facts _ _ _ _ (hp c)
  have hk := Cert.SelectIdeal.Value.run (F := Ideal) m g
  have hr := Cert.SelectRefIdeal.Value.run (F := Ideal) m' g'
  refine ⟨_, _, _, hk, (θ_run _ _ _).mono (fun r h c => ?_) hr⟩
  obtain ⟨h0, h1, h2, hs⟩ := h c
  obtain ⟨e0, e1, e2, e3⟩ := ha c
  rw [e0, e1, e2, e3] at h0
  rw [e1, e2] at h1
  rw [e0, e1, e3] at h2
  refine ⟨h0.trans ?_, h1.trans ?_, h2.trans ?_, hs⟩
  · exact total_value _ _ _ _ (hd c).1 (hd c).2
  · exact reg_value _ _
  · exact cls_value _ _ _ (hd c).1 (hd c).2

end Cert.Parts

end
-- ==== Proof.lean ====
module

public import proofs.«01_k».proof.Defs
public import proofs.«01_k».proof.Proof.Gen.Scores.Frame
public import proofs.«01_k».proof.Proof.Gen.ScoresIdeal.Frame
public import proofs.«01_k».proof.Proof.SelRun
public import proofs.«01_k».proof.Proof.SelIdealRun
public import proofs.«01_k».proof.Proof.ScoresClaim
public import proofs.«01_k».proof.Proof.Gen.Pre_drawn
public import proofs.«01_k».proof.Proof.Gen.Pre_scored
public import proofs.«01_k».proof.Proof.SelectClaim

@[expose] public section

noncomputable section

namespace Cert.Proof

open Idealize.ShloMosaic Idealize.SL.Sem

/-- Every claim of the certificate. -/
theorem claim : Cert.Claim := ⟨Cert.Scores.Gen.facts, Cert.ScoresIdeal.Gen.facts, Cert.ScoresRefIdeal.Gen.facts, Cert.Select.Gen.facts, Cert.SelectIdeal.Gen.facts, Cert.SelectRefIdeal.Gen.facts, Cert.Pre_drawn.Gen.facts, Cert.Pre_scored.Gen.facts,
  fun m ρ _ => Cert.Scores.Gen.frame m ρ, fun m ρ _ => Cert.ScoresIdeal.Gen.frame m ρ, fun m ρ _ => Cert.ScoresIdeal.Gen.frame m ρ,
  Cert.Parts.frameScoresRef, fun m ρ _ => Cert.Parts.frameScoresRef m ρ trivial,
  fun m ρ _ => Cert.Select.Gen.frame m ρ, fun m ρ _ => Cert.SelectIdeal.Gen.frame m ρ, fun m ρ _ => Cert.SelectIdeal.Gen.frame m ρ,
  Cert.Parts.frameSelectRef, fun m ρ _ => Cert.Parts.frameSelectRef m ρ trivial,
  trivial, Cert.Parts.algebraicScores, trivial, Cert.Parts.algebraicSelect⟩

end Cert.Proof

end
